-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_din" .f32 0x3B7E03F8#32 ((1 / 258 : ℝ) : EReal)

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_prepared : Cert.Pre_prepared.Facts),
    quiescent_Kernel (hKernel := hKernel)
    ∧ quiescent_KernelIdeal (hKernelIdeal := hKernelIdeal)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ preserves_Kernel_KernelIdeal
    ∧ algebraic_KernelIdeal_ReferenceIdeal_pre_prepared (hKernelIdeal := hKernelIdeal) (hReferenceIdeal := hReferenceIdeal) (hPre_prepared := hPre_prepared)
-- ==== Pre_prepared.lean ====
abbrev S16384x256 : Shape := ⟨2, ![16384, 256]⟩
abbrev S16384x2 : Shape := ⟨2, ![16384, 2]⟩
abbrev S128x128x256 : Shape := ⟨3, ![128, 128, 256]⟩
abbrev S258 : Shape := ⟨1, ![258]⟩
abbrev S258x512 : Shape := ⟨2, ![258, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S512x8 : Shape := ⟨2, ![512, 8]⟩
abbrev S8 : Shape := ⟨1, ![8]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S258x512 : S_.BroadcastsInDim S258x512 (![] : Fin 0 → Fin S258x512.rank)
  reducesTo_S258x512_S_d0_1 : S258x512.ReducesTo [0, 1] S_
  bcast_S_S512x512 : S_.BroadcastsInDim S512x512 (![] : Fin 0 → Fin S512x512.rank)
  reducesTo_S512x512_S_d0_1 : S512x512.ReducesTo [0, 1] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S258 : S_.BroadcastsInDim S258 (![] : Fin 0 → Fin S258.rank)
  reducesTo_S258_S_d0 : S258.ReducesTo [0] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v65 : IVec S512 1) : IVec S_ 1 :=
  let main_c_28 : IVec S_ 1 := constantI S_ 1 1#1
  let main_v66 : IVec S_ 1 := (fun x v => Host.reduce IntOp.andi x v reducesTo_S512_S_d0 h_S_) main_v65 main_c_28
  let main_v67 : IVec S_ 1 := andi main_v63 main_v66
  main_v67

def fn_part3 {F : FTy → Type} [FloatOps F] (main_arg6 : FVec F S512 .f32) (main_arg8 : FVec F S512 .f32) (main_arg14 : FVec F S512 .f32) (main_arg16 : FVec F S512 .f32) (main_v47 : IVec S_ 1) (main_v49 : IVec S258 1) : IVec S_ 1 :=
  let main_c_20 : IVec S_ 1 := constantI S_ 1 1#1
  let main_v50 : IVec S_ 1 := (fun x v => Host.reduce IntOp.andi x v reducesTo_S258_S_d0 h_S_) main_v49 main_c_20
  let main_v51 : IVec S_ 1 := andi main_v47 main_v50
  let main_cst_21 : FVec F S_ .f32 := constant S_ .f32 0x00000000#32
  let main_v52 : FVec F S512 .f32 := broadcastInDim S512 ![] bcast_S_S512 main_cst_21
  let main_v53 : IVec S512 1 := cmpf .oeq main_arg6 main_v52
  let main_c_22 : IVec S_ 1 := constantI S_ 1 1#1
  let main_v54 : IVec S_ 1 := (fun x v => Host.reduce IntOp.andi x v reducesTo_S512_S_d0 h_S_) main_v53 main_c_22
  let main_v55 : IVec S_ 1 := andi main_v51 main_v54
  let main_cst_23 : FVec F S_ .f32 := constant S_ .f32 0x00000000#32
  let main_v56 : FVec F S512 .f32 := broadcastInDim S512 ![] bcast_S_S512 main_cst_23
  let main_v57 : IVec S512 1 := cmpf .oeq main_arg14 main_v56
  let main_c_24 : IVec S_ 1 := constantI S_ 1 1#1
  let main_v58 : IVec S_ 1 := (fun x v => Host.reduce IntOp.andi x v reducesTo_S512_S_d0 h_S_) main_v57 main_c_24
  let main_v59 : IVec S_ 1 := andi main_v55 main_v58
  let main_cst_25 : FVec F S_ .f32 := constant S_ .f32 0x00000000#32
  let main_v60 : FVec F S512 .f32 := broadcastInDim S512 ![] bcast_S_S512 main_cst_25
  let main_v61 : IVec S512 1 := cmpf .oeq main_arg8 main_v60
  let main_c_26 : IVec S_ 1 := constantI S_ 1 1#1
  let main_v62 : IVec S_ 1 := (fun x v => Host.reduce IntOp.andi x v reducesTo_S512_S_d0 h_S_) main_v61 main_c_26
  let main_v63 : IVec S_ 1 := andi main_v59 main_v62
  let main_cst_27 : FVec F S_ .f32 := constant S_ .f32 0x00000000#32
  let main_v64 : FVec F S512 .f32 := broadcastInDim S512 ![] bcast_S_S512 main_cst_27
  let main_v65 : IVec S512 1 := cmpf .oeq main_arg16 main_v64
  fn_part4 (F := F) main_v63 main_v65

def fn_part2 {F : FTy → Type} [FloatOps F] (main_arg3 : FVec F S258 .f32) (main_arg4 : FVec F S258 .f32) (main_arg6 : FVec F S512 .f32) (main_arg8 : FVec F S512 .f32) (main_arg11 : FVec F S258 .f32) (main_arg12 : FVec F S258 .f32) (main_arg14 : FVec F S512 .f32) (main_arg16 : FVec F S512 .f32) (main_v30 : IVec S_ 1) (main_v33 : IVec S8 1) : IVec S_ 1 :=
  let main_c_12 : IVec S_ 1 := constantI S_ 1 1#1
  let main_v34 : IVec S_ 1 := (fun x v => Host.reduce IntOp.andi x v reducesTo_S8_S_d0 h_S_) main_v33 main_c_12
  let main_v35 : IVec S_ 1 := andi main_v30 main_v34
  let main_cst_13 : FVec F S_ .f32 := constant S_ .f32 0x3F800000#32
  let main_v36 : FVec F S258 .f32 := broadcastInDim S258 ![] bcast_S_S258 main_cst_13
  let main_v37 : IVec S258 1 := cmpf .oeq main_arg3 main_v36
  let main_c_14 : IVec S_ 1 := constantI S_ 1 1#1
  let main_v38 : IVec S_ 1 := (fun x v => Host.reduce IntOp.andi x v reducesTo_S258_S_d0 h_S_) main_v37 main_c_14
  let main_v39 : IVec S_ 1 := andi main_v35 main_v38
  let main_cst_15 : FVec F S_ .f32 := constant S_ .f32 0x3F800000#32
  let main_v40 : FVec F S258 .f32 := broadcastInDim S258 ![] bcast_S_S258 main_cst_15
  let main_v41 : IVec S258 1 := cmpf .oeq main_arg11 main_v40
  let main_c_16 : IVec S_ 1 := constantI S_ 1 1#1
  let main_v42 : IVec S_ 1 := (fun x v => Host.reduce IntOp.andi x v reducesTo_S258_S_d0 h_S_) main_v41 main_c_16
  let main_v43 : IVec S_ 1 := andi main_v39 main_v42
  let main_cst_17 : FVec F S_ .f32 := constant S_ .f32 0x00000000#32
  let main_v44 : FVec F S258 .f32 := broadcastInDim S258 ![] bcast_S_S258 main_cst_17
  let main_v45 : IVec S258 1 := cmpf .oeq main_arg4 main_v44
  let main_c_18 : IVec S_ 1 := constantI S_ 1 1#1
  let main_v46 : IVec S_ 1 := (fun x v => Host.reduce IntOp.andi x v reducesTo_S258_S_d0 h_S_) main_v45 main_c_18
  let main_v47 : IVec S_ 1 := andi main_v43 main_v46
  let main_cst_19 : FVec F S_ .f32 := constant S_ .f32 0x00000000#32
  let main_v48 : FVec F S258 .f32 := broadcastInDim S258 ![] bcast_S_S258 main_cst_19
  let main_v49 : IVec S258 1 := cmpf .oeq main_arg12 main_v48
  fn_part3 (F := F) main_arg6 main_arg8 main_arg14 main_arg16 main_v47 main_v49

def fn_part1 {F : FTy → Type} [FloatOps F] (main_arg3 : FVec F S258 .f32) (main_arg4 : FVec F S258 .f32) (main_arg6 : FVec F S512 .f32) (main_arg8 : FVec F S512 .f32) (main_arg11 : FVec F S258 .f32) (main_arg12 : FVec F S258 .f32) (main_arg14 : FVec F S512 .f32) (main_arg15 : FVec F S512x512 .f32) (main_arg16 : FVec F S512 .f32) (main_arg17 : FVec F S512x8 .f32) (main_arg18 : FVec F S8 .f32) (main_v15 : IVec S_ 1) (main_v16 : FVec F S258x512 .f32) : IVec S_ 1 :=
  let main_cst_5 : FVec F S_ .f32 := constant S_ .f32 0x7F800000#32
  let main_v17 : FVec F S258x512 .f32 := broadcastInDim S258x512 ![] bcast_S_S258x512 main_cst_5
  let main_v18 : IVec S258x512 1 := cmpf .olt main_v16 main_v17
  let main_c_6 : IVec S_ 1 := constantI S_ 1 1#1
  let main_v19 : IVec S_ 1 := (fun x v => Host.reduce IntOp.andi x v reducesTo_S258x512_S_d0_1 h_S_) main_v18 main_c_6
  let main_v20 : IVec S_ 1 := andi main_v15 main_v19
  let main_v21 : FVec F S512x512 .f32 := Host.absf main_arg15
  let main_cst_7 : FVec F S_ .f32 := constant S_ .f32 0x7F800000#32
  let main_v22 : FVec F S512x512 .f32 := broadcastInDim S512x512 ![] bcast_S_S512x512 main_cst_7
  let main_v23 : IVec S512x512 1 := cmpf .olt main_v21 main_v22
  let main_c_8 : IVec S_ 1 := constantI S_ 1 1#1
  let main_v24 : IVec S_ 1 := (fun x v => Host.reduce IntOp.andi x v reducesTo_S512x512_S_d0_1 h_S_) main_v23 main_c_8
  let main_v25 : IVec S_ 1 := andi main_v20 main_v24
  let main_v26 : FVec F S512x8 .f32 := Host.absf main_arg17
  let main_cst_9 : FVec F S_ .f32 := constant S_ .f32 0x7F800000#32
  let main_v27 : FVec F S512x8 .f32 := broadcastInDim S512x8 ![] bcast_S_S512x8 main_cst_9
  let main_v28 : IVec S512x8 1 := cmpf .olt main_v26 main_v27
  let main_c_10 : IVec S_ 1 := constantI S_ 1 1#1
  let main_v29 : IVec S_ 1 := (fun x v => Host.reduce IntOp.andi x v reducesTo_S512x8_S_d0_1 h_S_) main_v28 main_c_10
  let main_v30 : IVec S_ 1 := andi main_v25 main_v29
  let main_v31 : FVec F S8 .f32 := Host.absf main_arg18
  let main_cst_11 : FVec F S_ .f32 := constant S_ .f32 0x7F800000#32
  let main_v32 : FVec F S8 .f32 := broadcastInDim S8 ![] bcast_S_S8 main_cst_11
  let main_v33 : IVec S8 1 := cmpf .olt main_v31 main_v32
  fn_part2 (F := F) main_arg3 main_arg4 main_arg6 main_arg8 main_arg11 main_arg12 main_arg14 main_arg16 main_v30 main_v33

def fn {F : FTy → Type} [FloatOps F] (main_arg0 : FVec F S16384x256 .f32) (main_arg1 : FVec F S16384x2 .f32) (main_arg2 : FVec F S128x128x256 .f32) (main_arg3 : FVec F S258 .f32) (main_arg4 : FVec F S258 .f32) (main_arg5 : FVec F S258x512 .f32) (main_arg6 : FVec F S512 .f32) (main_arg7 : FVec F S512x512 .f32) (main_arg8 : FVec F S512 .f32) (main_arg9 : FVec F S512x16 .f32) (main_arg10 : FVec F S16 .f32) (main_arg11 : FVec F S258 .f32) (main_arg12 : FVec F S258 .f32) (main_arg13 : FVec F S258x512 .f32) (main_arg14 : FVec F S512 .f32) (main_arg15 : FVec F S512x512 .f32) (main_arg16 : FVec F S512 .f32) (main_arg17 : FVec F S512x8 .f32) (main_arg18 : FVec F S8 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_cst_0 : FVec F S_ .f32 := constant S_ .f32 0x00000000#32
  let main_v4 : FVec F S16384x2 .f32 := broadcastInDim S16384x2 ![] bcast_S_S16384x2 main_cst_0
  let main_v5 : IVec S16384x2 1 := cmpf .oge main_arg1 main_v4
  let main_cst_1 : FVec F S_ .f32 := constant S_ .f32 0x3F800000#32
  let main_v6 : FVec F S16384x2 .f32 := broadcastInDim S16384x2 ![] bcast_S_S16384x2 main_cst_1
  let main_v7 : IVec S16384x2 1 := cmpf .ole main_arg1 main_v6
  let main_v8 : IVec S16384x2 1 := andi main_v5 main_v7
  let main_c_2 : IVec S_ 1 := constantI S_ 1 1#1
  let main_v9 : IVec S_ 1 := (fun x v => Host.reduce IntOp.andi x v reducesTo_S16384x2_S_d0_1 h_S_) main_v8 main_c_2
  let main_v10 : IVec S_ 1 := andi main_v3 main_v9
  let main_v11 : FVec F S258x512 .f32 := Host.absf main_arg5
  let main_cst_3 : FVec F S_ .f32 := constant S_ .f32 0x7F800000#32
  let main_v12 : FVec F S258x512 .f32 := broadcastInDim S258x512 ![] bcast_S_S258x512 main_cst_3
  let main_v13 : IVec S258x512 1 := cmpf .olt main_v11 main_v12
  let main_c_4 : IVec S_ 1 := constantI S_ 1 1#1
  let main_v14 : IVec S_ 1 := (fun x v => Host.reduce IntOp.andi x v reducesTo_S258x512_S_d0_1 h_S_) main_v13 main_c_4
  let main_v15 : IVec S_ 1 := andi main_v10 main_v14
  let main_v16 : FVec F S258x512 .f32 := Host.absf main_arg13
  fn_part1 (F := F) main_arg3 main_arg4 main_arg6 main_arg8 main_arg11 main_arg12 main_arg14 main_arg15 main_arg16 main_arg17 main_arg18 main_v15 main_v16
-- ==== Kernel.lean ====
abbrev S16384x256 : Shape := ⟨2, ![16384, 256]⟩
abbrev S16384x2 : Shape := ⟨2, ![16384, 2]⟩
abbrev S128x128x256 : Shape := ⟨3, ![128, 128, 256]⟩
abbrev S258 : Shape := ⟨1, ![258]⟩
abbrev S258x512 : Shape := ⟨2, ![258, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S512x8 : Shape := ⟨2, ![512, 8]⟩
abbrev S8 : Shape := ⟨1, ![8]⟩
abbrev S4x4x256 : Shape := ⟨3, ![4, 4, 256]⟩
abbrev S16x256 : Shape := ⟨2, ![16, 256]⟩
abbrev S1x16x1x256 : Shape := ⟨4, ![1, 16, 1, 256]⟩
abbrev S8x16x1x256 : Shape := ⟨4, ![8, 16, 1, 256]⟩
abbrev S128x256 : Shape := ⟨2, ![128, 256]⟩
abbrev S1x16 : Shape := ⟨2, ![1, 16]⟩
abbrev S1x8 : Shape := ⟨2, ![1, 8]⟩
abbrev S2048x256 : Shape := ⟨2, ![2048, 256]⟩
abbrev S2048x2 : Shape := ⟨2, ![2048, 2]⟩
abbrev S2048x1 : Shape := ⟨2, ![2048, 1]⟩
abbrev S256x512 : Shape := ⟨2, ![256, 512]⟩
abbrev S2048x512 : Shape := ⟨2, ![2048, 512]⟩
abbrev S2x512 : Shape := ⟨2, ![2, 512]⟩
abbrev S8x258 : Shape := ⟨2, ![8, 258]⟩
abbrev S8x512 : Shape := ⟨2, ![8, 512]⟩
abbrev S1x512 : Shape := ⟨2, ![1, 512]⟩
abbrev S256x8 : Shape := ⟨2, ![256, 8]⟩
abbrev S2048x8 : Shape := ⟨2, ![2048, 8]⟩
abbrev S2048x16 : Shape := ⟨2, ![2048, 16]⟩
abbrev S2048 : Shape := ⟨1, ![2048]⟩
abbrev S2x16 : Shape := ⟨2, ![2, 16]⟩
abbrev S16x128 : Shape := ⟨2, ![16, 128]⟩
abbrev S8x128 : Shape := ⟨2, ![8, 128]⟩
abbrev S2048x128 : Shape := ⟨2, ![2048, 128]⟩

abbrev nBuf : Space → Nat
  | .hbm => 27
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x2, .f32⟩
  | .hbm, ⟨2, _⟩ => ⟨S128x128x256, .f32⟩
  | .hbm, ⟨3, _⟩ => ⟨S258, .f32⟩
  | .hbm, ⟨4, _⟩ => ⟨S258, .f32⟩
  | .hbm, ⟨5, _⟩ => ⟨S258x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x16, .f32⟩
  | .hbm, ⟨10, _⟩ => ⟨S16, .f32⟩
  | .hbm, ⟨11, _⟩ => ⟨S258, .f32⟩
  | .hbm, ⟨12, _⟩ => ⟨S258, .f32⟩
  | .hbm, ⟨13, _⟩ => ⟨S258x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x8, .f32⟩
  | .hbm, ⟨18, _⟩ => ⟨S8, .f32⟩
  | .hbm, ⟨19, _⟩ => ⟨S4x4x256, .f32⟩
  | .hbm, ⟨20, _⟩ => ⟨S16x256, .f32⟩
  | .hbm, ⟨21, _⟩ => ⟨S1x16x1x256, .f32⟩
  | .hbm, ⟨22, _⟩ => ⟨S8x16x1x256, .f32⟩
  | .hbm, ⟨23, _⟩ => ⟨S128x256, .f32⟩
  | .hbm, ⟨24, _⟩ => ⟨S1x16, .f32⟩
  | .hbm, ⟨25, _⟩ => ⟨S1x8, .f32⟩
  | .hbm, ⟨26, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x2, .f32⟩
  | .local _ .vmem, ⟨3, _⟩ => ⟨S2048x2, .f32⟩
  | .local _ .vmem, ⟨4, _⟩ => ⟨S258x512, .f32⟩
  | .local _ .vmem, ⟨5, _⟩ => ⟨S258x512, .f32⟩
  | .local _ .vmem, ⟨6, _⟩ => ⟨S512x512, .f32⟩
  | .local _ .vmem, ⟨7, _⟩ => ⟨S512x16, .f32⟩
  | .local _ .vmem, ⟨8, _⟩ => ⟨S1x16, .f32⟩
  | .local _ .vmem, ⟨9, _⟩ => ⟨S512x512, .f32⟩
  | .local _ .vmem, ⟨10, _⟩ => ⟨S512x8, .f32⟩
  | .local _ .vmem, ⟨11, _⟩ => ⟨S1x8, .f32⟩
  | .local _ .vmem, ⟨12, _⟩ => ⟨S128x256, .f32⟩
  | .local _ .vmem, ⟨13, _⟩ => ⟨S2048x256, .f32⟩
  | .local _ .vmem, ⟨14, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S258x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S258x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_din" => some ((1 / 258 : ℝ) : EReal)
  | _ => none
-- ==== ReferenceIdeal.lean ====
abbrev S16384x256 : Shape := ⟨2, ![16384, 256]⟩
abbrev S16384x2 : Shape := ⟨2, ![16384, 2]⟩
abbrev S128x128x256 : Shape := ⟨3, ![128, 128, 256]⟩
abbrev S258 : Shape := ⟨1, ![258]⟩
abbrev S258x512 : Shape := ⟨2, ![258, 512]⟩
abbrev S512 : Shape := ⟨1, ![512]⟩
abbrev S512x512 : Shape := ⟨2, ![512, 512]⟩
abbrev S512x16 : Shape := ⟨2, ![512, 16]⟩
abbrev S16 : Shape := ⟨1, ![16]⟩
abbrev S512x8 : Shape := ⟨2, ![512, 8]⟩
abbrev S8 : Shape := ⟨1, ![8]⟩
abbrev S16384x258 : Shape := ⟨2, ![16384, 258]⟩
abbrev S_ : Shape := ⟨0, ![]⟩
abbrev S16384 : Shape := ⟨1, ![16384]⟩
abbrev S16384x1 : Shape := ⟨2, ![16384, 1]⟩
abbrev S1x258 : Shape := ⟨2, ![1, 258]⟩
abbrev S16384x512 : Shape := ⟨2, ![16384, 512]⟩
abbrev S1x512 : Shape := ⟨2, ![1, 512]⟩
abbrev S16384x16 : Shape := ⟨2, ![16384, 16]⟩
abbrev S1x16 : Shape := ⟨2, ![1, 16]⟩
abbrev S16384x8x2 : Shape := ⟨3, ![16384, 8, 2]⟩
abbrev S16384x8 : Shape := ⟨2, ![16384, 8]⟩
abbrev S1x8 : Shape := ⟨2, ![1, 8]⟩
abbrev S16384x1x2 : Shape := ⟨3, ![16384, 1, 2]⟩
abbrev S16384x8x1 : Shape := ⟨3, ![16384, 8, 1]⟩
abbrev S1 : Shape := ⟨1, ![1]⟩
abbrev S1x1x1 : Shape := ⟨3, ![1, 1, 1]⟩
abbrev S16384x8x256 : Shape := ⟨3, ![16384, 8, 256]⟩

abbrev nBuf : Space → Nat
  | .hbm => 409
  | .vmem => 0
  | .smem => 0
  | _ => 0

abbrev hbmTy0_0 (i : Nat) : BufTy := match i % 128 with
  | 0 => ⟨S16384x256, .f32⟩
  | 1 => ⟨S16384x2, .f32⟩
  | 2 => ⟨S128x128x256, .f32⟩
  | 3 => ⟨S258, .f32⟩
  | 4 => ⟨S258, .f32⟩
  | 5 => ⟨S258x512, .f32⟩
  | 6 => ⟨S512, .f32⟩
  | 7 => ⟨S512x512, .f32⟩
  | 8 => ⟨S512, .f32⟩
  | 9 => ⟨S512x16, .f32⟩
  | 10 => ⟨S16, .f32⟩
  | 11 => ⟨S258, .f32⟩
  | 12 => ⟨S258, .f32⟩
  | 13 => ⟨S258x512, .f32⟩
  | 14 => ⟨S512, .f32⟩
  | 15 => ⟨S512x512, .f32⟩
  | 16 => ⟨S512, .f32⟩
  | 17 => ⟨S512x8, .f32⟩
  | 18 => ⟨S8, .f32⟩
  | 19 => ⟨S16384x258, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .i32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x258, .f32⟩
  | 34 => ⟨S16384x258, .f32⟩
  | 35 => ⟨S16384x258, .f32⟩
  | 36 => ⟨S_, .f32⟩
  | 37 => ⟨S_, .f32⟩
  | 38 => ⟨S_, .f32⟩
  | 39 => ⟨S_, .f32⟩
  | 40 => ⟨S16384, .f32⟩
  | 41 => ⟨S16384x1, .f32⟩
  | 42 => ⟨S16384x1, .f32⟩
  | 43 => ⟨S16384x1, .f32⟩
  | 44 => ⟨S_, .f32⟩
  | 45 => ⟨S_, .i1⟩
  | 46 => ⟨S_, .f32⟩
  | 47 => ⟨S_, .f32⟩
  | 48 => ⟨S16384x1, .f32⟩
  | 49 => ⟨S16384x1, .f32⟩
  | 50 => ⟨S16384x258, .f32⟩
  | 51 => ⟨S16384x258, .f32⟩
  | 52 => ⟨S_, .f32⟩
  | 53 => ⟨S16384x1, .f32⟩
  | 54 => ⟨S16384x1, .f32⟩
  | 55 => ⟨S16384x1, .f32⟩
  | 56 => ⟨S16384x258, .f32⟩
  | 57 => ⟨S16384x258, .f32⟩
  | 58 => ⟨S1x258, .f32⟩
  | 59 => ⟨S16384x258, .f32⟩
  | 60 => ⟨S16384x258, .f32⟩
  | 61 => ⟨S1x258, .f32⟩
  | 62 => ⟨S16384x258, .f32⟩
  | 63 => ⟨S16384x258, .f32⟩
  | 64 => ⟨S16384x512, .f32⟩
  | 65 => ⟨S1x512, .f32⟩
  | 66 => ⟨S16384x512, .f32⟩
  | 67 => ⟨S16384x512, .f32⟩
  | 68 => ⟨S_, .f32⟩
  | 69 => ⟨S16384x512, .f32⟩
  | 70 => ⟨S16384x512, .f32⟩
  | 71 => ⟨S16384x512, .f32⟩
  | 72 => ⟨S1x512, .f32⟩
  | 73 => ⟨S16384x512, .f32⟩
  | 74 => ⟨S16384x512, .f32⟩
  | 75 => ⟨S_, .f32⟩
  | 76 => ⟨S16384x512, .f32⟩
  | 77 => ⟨S16384x512, .f32⟩
  | 78 => ⟨S16384x16, .f32⟩
  | 79 => ⟨S1x16, .f32⟩
  | 80 => ⟨S16384x16, .f32⟩
  | 81 => ⟨S16384x16, .f32⟩
  | 82 => ⟨S16384x8x2, .f32⟩
  | 83 => ⟨S16384x8x2, .f32⟩
  | 84 => ⟨S_, .f32⟩
  | 85 => ⟨S16384x8x2, .f32⟩
  | 86 => ⟨S16384x8x2, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .i32⟩
  | 94 => ⟨S_, .f32⟩
  | 95 => ⟨S16384, .f32⟩
  | 96 => ⟨S16384x1, .f32⟩
  | 97 => ⟨S_, .f32⟩
  | 98 => ⟨S16384x1, .f32⟩
  | 99 => ⟨S16384x1, .f32⟩
  | 100 => ⟨S16384x258, .f32⟩
  | 101 => ⟨S16384x258, .f32⟩
  | 102 => ⟨S16384x258, .f32⟩
  | 103 => ⟨S_, .f32⟩
  | 104 => ⟨S_, .f32⟩
  | 105 => ⟨S_, .f32⟩
  | 106 => ⟨S_, .f32⟩
  | 107 => ⟨S16384, .f32⟩
  | 108 => ⟨S16384x1, .f32⟩
  | 109 => ⟨S16384x1, .f32⟩
  | 110 => ⟨S16384x1, .f32⟩
  | 111 => ⟨S_, .f32⟩
  | 112 => ⟨S_, .i1⟩
  | 113 => ⟨S_, .f32⟩
  | 114 => ⟨S_, .f32⟩
  | 115 => ⟨S16384x1, .f32⟩
  | 116 => ⟨S16384x1, .f32⟩
  | 117 => ⟨S16384x258, .f32⟩
  | 118 => ⟨S16384x258, .f32⟩
  | 119 => ⟨S_, .f32⟩
  | 120 => ⟨S16384x1, .f32⟩
  | 121 => ⟨S16384x1, .f32⟩
  | 122 => ⟨S16384x1, .f32⟩
  | 123 => ⟨S16384x258, .f32⟩
  | 124 => ⟨S16384x258, .f32⟩
  | 125 => ⟨S1x258, .f32⟩
  | 126 => ⟨S16384x258, .f32⟩
  | 127 => ⟨S16384x258, .f32⟩
  | _ => ⟨S16384x256, .f32⟩

abbrev hbmTy0_1 (i : Nat) : BufTy := match i % 128 with
  | 0 => ⟨S1x258, .f32⟩
  | 1 => ⟨S16384x258, .f32⟩
  | 2 => ⟨S16384x258, .f32⟩
  | 3 => ⟨S16384x512, .f32⟩
  | 4 => ⟨S1x512, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S1x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x8, .f32⟩
  | 18 => ⟨S1x8, .f32⟩
  | 19 => ⟨S16384x8, .f32⟩
  | 20 => ⟨S16384x8, .f32⟩
  | 21 => ⟨S_, .f32⟩
  | 22 => ⟨S16384, .f32⟩
  | 23 => ⟨S_, .f32⟩
  | 24 => ⟨S16384, .f32⟩
  | 25 => ⟨S16384, .f32⟩
  | 26 => ⟨S16384x1, .f32⟩
  | 27 => ⟨S16384x8, .f32⟩
  | 28 => ⟨S16384x8, .f32⟩
  | 29 => ⟨S16384x8, .f32⟩
  | 30 => ⟨S_, .f32⟩
  | 31 => ⟨S16384, .f32⟩
  | 32 => ⟨S16384x1, .f32⟩
  | 33 => ⟨S16384x8, .f32⟩
  | 34 => ⟨S16384x8, .f32⟩
  | 35 => ⟨S16384x1x2, .f32⟩
  | 36 => ⟨S16384x8x2, .f32⟩
  | 37 => ⟨S16384x8x2, .f32⟩
  | 38 => ⟨S16384x8x1, .f32⟩
  | 39 => ⟨S16384x8, .f32⟩
  | 40 => ⟨S_, .f32⟩
  | 41 => ⟨S16384x8, .f32⟩
  | 42 => ⟨S16384x8, .f32⟩
  | 43 => ⟨S_, .f32⟩
  | 44 => ⟨S16384x8, .f32⟩
  | 45 => ⟨S16384x8, .f32⟩
  | 46 => ⟨S_, .f32⟩
  | 47 => ⟨S16384x8, .f32⟩
  | 48 => ⟨S16384x8, .f32⟩
  | 49 => ⟨S16384x8x1, .f32⟩
  | 50 => ⟨S16384x8, .f32⟩
  | 51 => ⟨S_, .f32⟩
  | 52 => ⟨S16384x8, .f32⟩
  | 53 => ⟨S16384x8, .f32⟩
  | 54 => ⟨S_, .f32⟩
  | 55 => ⟨S16384x8, .f32⟩
  | 56 => ⟨S16384x8, .f32⟩
  | 57 => ⟨S_, .f32⟩
  | 58 => ⟨S16384x8, .f32⟩
  | 59 => ⟨S16384x8, .f32⟩
  | 60 => ⟨S_, .f32⟩
  | 61 => ⟨S_, .f32⟩
  | 62 => ⟨S_, .f32⟩
  | 63 => ⟨S16384x8, .f32⟩
  | 64 => ⟨S16384x8, .f32⟩
  | 65 => ⟨S_, .f32⟩
  | 66 => ⟨S16384x8, .f32⟩
  | 67 => ⟨S16384x8, .f32⟩
  | 68 => ⟨S_, .f32⟩
  | 69 => ⟨S_, .f32⟩
  | 70 => ⟨S_, .f32⟩
  | 71 => ⟨S16384x8, .f32⟩
  | 72 => ⟨S16384x8, .f32⟩
  | 73 => ⟨S_, .f32⟩
  | 74 => ⟨S16384x8, .f32⟩
  | 75 => ⟨S16384x8, .f32⟩
  | 76 => ⟨S_, .f32⟩
  | 77 => ⟨S16384x8, .f32⟩
  | 78 => ⟨S16384x8, .f32⟩
  | 79 => ⟨S_, .f32⟩
  | 80 => ⟨S16384x8, .f32⟩
  | 81 => ⟨S16384x8, .f32⟩
  | 82 => ⟨S_, .f32⟩
  | 83 => ⟨S16384x8, .f32⟩
  | 84 => ⟨S16384x8, .f32⟩
  | 85 => ⟨S_, .f32⟩
  | 86 => ⟨S16384x8, .f32⟩
  | 87 => ⟨S16384x8, .f32⟩
  | 88 => ⟨S_, .f32⟩
  | 89 => ⟨S16384x8, .f32⟩
  | 90 => ⟨S16384x8, .f32⟩
  | 91 => ⟨S_, .f32⟩
  | 92 => ⟨S16384x8, .f32⟩
  | 93 => ⟨S16384x8, .f32⟩
  | 94 => ⟨S_, .f32⟩
  | 95 => ⟨S_, .i32⟩
  | 96 => ⟨S_, .f32⟩
  | 97 => ⟨S16384x8, .f32⟩
  | 98 => ⟨S16384x8, .f32⟩
  | 99 => ⟨S_, .f32⟩
  | 100 => ⟨S16384x8, .f32⟩
  | 101 => ⟨S16384x8, .f32⟩
  | 102 => ⟨S_, .f32⟩
  | 103 => ⟨S_, .i32⟩
  | 104 => ⟨S_, .f32⟩
  | 105 => ⟨S16384x8, .f32⟩
  | 106 => ⟨S16384x8, .f32⟩
  | 107 => ⟨S_, .f32⟩
  | 108 => ⟨S16384x8, .f32⟩
  | 109 => ⟨S16384x8, .f32⟩
  | 110 => ⟨S16384x8, .f32⟩
  | 111 => ⟨S16384x8, .f32⟩
  | 112 => ⟨S16384x8, .f32⟩
  | 113 => ⟨S16384x8, .f32⟩
  | 114 => ⟨S16384x8, .i32⟩
  | 115 => ⟨S16384x8, .i32⟩
  | 116 => ⟨S_, .i32⟩
  | 117 => ⟨S16384x8, .i32⟩
  | 118 => ⟨S16384x8, .i32⟩
  | 119 => ⟨S_, .i32⟩
  | 120 => ⟨S16384x8, .i32⟩
  | 121 => ⟨S16384x8, .i32⟩
  | 122 => ⟨S_, .i32⟩
  | 123 => ⟨S16384x8, .i32⟩
  | 124 => ⟨S16384x8, .i32⟩
  | 125 => ⟨S_, .i32⟩
  | 126 => ⟨S16384x8, .i32⟩
  | 127 => ⟨S16384x8, .i32⟩
  | _ => ⟨S16384x256, .f32⟩

abbrev hbmTy0_2 (i : Nat) : BufTy := match i % 128 with
  | 0 => ⟨S16384x256, .f32⟩
  | 1 => ⟨S_, .i32⟩
  | 2 => ⟨S16384x8, .i32⟩
  | 3 => ⟨S16384x8, .i32⟩
  | 4 => ⟨S16384x8, .i32⟩
  | 5 => ⟨S_, .i32⟩
  | 6 => ⟨S16384x8, .i32⟩
  | 7 => ⟨S16384x8, .i1⟩
  | 8 => ⟨S_, .i32⟩
  | 9 => ⟨S16384x8, .i32⟩
  | 10 => ⟨S16384x8, .i32⟩
  | 11 => ⟨S16384x8, .i32⟩
  | 12 => ⟨S16384x8x1, .i32⟩
  | 13 => ⟨S1, .i32⟩
  | 14 => ⟨S_, .i32⟩
  | 15 => ⟨S16384x8x1, .i32⟩
  | 16 => ⟨S16384x8x1, .i1⟩
  | 17 => ⟨S1x1x1, .i32⟩
  | 18 => ⟨S16384x8x1, .i32⟩
  | 19 => ⟨S16384x8x1, .i1⟩
  | 20 => ⟨S16384x8x1, .i1⟩
  | 21 => ⟨S_, .i1⟩
  | 22 => ⟨S16384x8, .i1⟩
  | 23 => ⟨S16384x8x256, .f32⟩
  | 24 => ⟨S16384x8x256, .i1⟩
  | 25 => ⟨S_, .f32⟩
  | 26 => ⟨S16384x8x256, .f32⟩
  | 27 => ⟨S16384x8x256, .f32⟩
  | 28 => ⟨S_, .i32⟩
  | 29 => ⟨S16384x8, .i32⟩
  | 30 => ⟨S16384x8, .i32⟩
  | 31 => ⟨S16384x8, .i32⟩
  | 32 => ⟨S_, .i32⟩
  | 33 => ⟨S16384x8, .i32⟩
  | 34 => ⟨S16384x8, .i1⟩
  | 35 => ⟨S_, .i32⟩
  | 36 => ⟨S16384x8, .i32⟩
  | 37 => ⟨S16384x8, .i32⟩
  | 38 => ⟨S16384x8, .i32⟩
  | 39 => ⟨S16384x8x1, .i32⟩
  | 40 => ⟨S1, .i32⟩
  | 41 => ⟨S_, .i32⟩
  | 42 => ⟨S16384x8x1, .i32⟩
  | 43 => ⟨S16384x8x1, .i1⟩
  | 44 => ⟨S1x1x1, .i32⟩
  | 45 => ⟨S16384x8x1, .i32⟩
  | 46 => ⟨S16384x8x1, .i1⟩
  | 47 => ⟨S16384x8x1, .i1⟩
  | 48 => ⟨S_, .i1⟩
  | 49 => ⟨S16384x8, .i1⟩
  | 50 => ⟨S16384x8x256, .f32⟩
  | 51 => ⟨S16384x8x256, .i1⟩
  | 52 => ⟨S_, .f32⟩
  | 53 => ⟨S16384x8x256, .f32⟩
  | 54 => ⟨S16384x8x256, .f32⟩
  | 55 => ⟨S_, .i32⟩
  | 56 => ⟨S16384x8, .i32⟩
  | 57 => ⟨S16384x8, .i32⟩
  | 58 => ⟨S16384x8, .i32⟩
  | 59 => ⟨S_, .i32⟩
  | 60 => ⟨S16384x8, .i32⟩
  | 61 => ⟨S16384x8, .i1⟩
  | 62 => ⟨S_, .i32⟩
  | 63 => ⟨S16384x8, .i32⟩
  | 64 => ⟨S16384x8, .i32⟩
  | 65 => ⟨S16384x8, .i32⟩
  | 66 => ⟨S16384x8x1, .i32⟩
  | 67 => ⟨S1, .i32⟩
  | 68 => ⟨S_, .i32⟩
  | 69 => ⟨S16384x8x1, .i32⟩
  | 70 => ⟨S16384x8x1, .i1⟩
  | 71 => ⟨S1x1x1, .i32⟩
  | 72 => ⟨S16384x8x1, .i32⟩
  | 73 => ⟨S16384x8x1, .i1⟩
  | 74 => ⟨S16384x8x1, .i1⟩
  | 75 => ⟨S_, .i1⟩
  | 76 => ⟨S16384x8, .i1⟩
  | 77 => ⟨S16384x8x256, .f32⟩
  | 78 => ⟨S16384x8x256, .i1⟩
  | 79 => ⟨S_, .f32⟩
  | 80 => ⟨S16384x8x256, .f32⟩
  | 81 => ⟨S16384x8x256, .f32⟩
  | 82 => ⟨S_, .i32⟩
  | 83 => ⟨S16384x8, .i32⟩
  | 84 => ⟨S16384x8, .i32⟩
  | 85 => ⟨S16384x8, .i32⟩
  | 86 => ⟨S_, .i32⟩
  | 87 => ⟨S16384x8, .i32⟩
  | 88 => ⟨S16384x8, .i1⟩
  | 89 => ⟨S_, .i32⟩
  | 90 => ⟨S16384x8, .i32⟩
  | 91 => ⟨S16384x8, .i32⟩
  | 92 => ⟨S16384x8, .i32⟩
  | 93 => ⟨S16384x8x1, .i32⟩
  | 94 => ⟨S1, .i32⟩
  | 95 => ⟨S_, .i32⟩
  | 96 => ⟨S16384x8x1, .i32⟩
  | 97 => ⟨S16384x8x1, .i1⟩
  | 98 => ⟨S1x1x1, .i32⟩
  | 99 => ⟨S16384x8x1, .i32⟩
  | 100 => ⟨S16384x8x1, .i1⟩
  | 101 => ⟨S16384x8x1, .i1⟩
  | 102 => ⟨S_, .i1⟩
  | 103 => ⟨S16384x8, .i1⟩
  | 104 => ⟨S16384x8x256, .f32⟩
  | 105 => ⟨S16384x8x256, .i1⟩
  | 106 => ⟨S_, .f32⟩
  | 107 => ⟨S16384x8x256, .f32⟩
  | 108 => ⟨S16384x8x256, .f32⟩
  | 109 => ⟨S_, .f32⟩
  | 110 => ⟨S16384x8, .f32⟩
  | 111 => ⟨S16384x8, .f32⟩
  | 112 => ⟨S_, .f32⟩
  | 113 => ⟨S16384x8, .f32⟩
  | 114 => ⟨S16384x8, .f32⟩
  | 115 => ⟨S16384x8, .f32⟩
  | 116 => ⟨S16384x8x1, .f32⟩
  | 117 => ⟨S16384x8x256, .f32⟩
  | 118 => ⟨S16384x8x256, .f32⟩
  | 119 => ⟨S_, .f32⟩
  | 120 => ⟨S16384x8, .f32⟩
  | 121 => ⟨S16384x8, .f32⟩
  | 122 => ⟨S16384x8, .f32⟩
  | 123 => ⟨S16384x8x1, .f32⟩
  | 124 => ⟨S16384x8x256, .f32⟩
  | 125 => ⟨S16384x8x256, .f32⟩
  | 126 => ⟨S16384x8x256, .f32⟩
  | 127 => ⟨S_, .f32⟩
  | _ => ⟨S16384x256, .f32⟩

abbrev hbmTy0_3 (i : Nat) : BufTy := match i % 128 with
  | 0 => ⟨S16384x8, .f32⟩
  | 1 => ⟨S16384x8, .f32⟩
  | 2 => ⟨S16384x8, .f32⟩
  | 3 => ⟨S16384x8x1, .f32⟩
  | 4 => ⟨S16384x8x256, .f32⟩
  | 5 => ⟨S16384x8x256, .f32⟩
  | 6 => ⟨S16384x8x256, .f32⟩
  | 7 => ⟨S16384x8, .f32⟩
  | 8 => ⟨S16384x8x1, .f32⟩
  | 9 => ⟨S16384x8x256, .f32⟩
  | 10 => ⟨S16384x8x256, .f32⟩
  | 11 => ⟨S16384x8x256, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S16384x8, .f32⟩
  | 19 => ⟨S16384x8, .f32⟩
  | 20 => ⟨S16384x8x1, .f32⟩
  | 21 => ⟨S16384x8x256, .f32⟩
  | 22 => ⟨S16384x8x256, .f32⟩
  | 23 => ⟨S_, .f32⟩
  | 24 => ⟨S16384x256, .f32⟩
  | _ => ⟨S16384x256, .f32⟩

abbrev hbmTy (i : Nat) : BufTy := match i / 128 with
  | 0 => hbmTy0_0 i
  | 1 => hbmTy0_1 i
  | 2 => hbmTy0_2 i
  | 3 => hbmTy0_3 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_cst_2 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_3 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_4 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_v40 : Ref sig .tc := ⟨.hbm, 89, rfl⟩
abbrev main_cst_6 : Ref sig .tc := ⟨.hbm, 90, rfl⟩
abbrev main_v41 : Ref sig .tc := ⟨.hbm, 91, rfl⟩
abbrev main_v42 : Ref sig .tc := ⟨.hbm, 92, rfl⟩
abbrev main_c_7 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_cst_0 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_cst_1 : Ref sig .tc := ⟨.hbm, 104, rfl⟩
abbrev main_call1_v8 : Ref sig .tc := ⟨.hbm, 105, rfl⟩
abbrev main_call1_cst_2 : Ref sig .tc := ⟨.hbm, 106, rfl⟩
abbrev main_call1_v9 : Ref sig .tc := ⟨.hbm, 107, rfl⟩
abbrev main_call1_v10 : Ref sig .tc := ⟨.hbm, 108, rfl⟩
abbrev main_call1_v11 : Ref sig .tc := ⟨.hbm, 109, rfl⟩
abbrev main_call1_v12 : Ref sig .tc := ⟨.hbm, 110, rfl⟩
abbrev main_call1_cst_3 : Ref sig .tc := ⟨.hbm, 111, rfl⟩
abbrev main_call1_v13 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_8 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_cst_9 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_cst_10 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_cst_11 : Ref sig .tc := ⟨.hbm, 149, rfl⟩
abbrev main_v73 : Ref sig .tc := ⟨.hbm, 150, rfl⟩
abbrev main_cst_12 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_13 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_14 : Ref sig .tc := ⟨.hbm, 168, rfl⟩
abbrev main_v89 : Ref sig .tc := ⟨.hbm, 169, rfl⟩
abbrev main_v90 : Ref sig .tc := ⟨.hbm, 170, rfl⟩
abbrev main_cst_15 : Ref sig .tc := ⟨.hbm, 171, rfl⟩
abbrev main_v91 : Ref sig .tc := ⟨.hbm, 172, rfl⟩
abbrev main_v92 : Ref sig .tc := ⟨.hbm, 173, rfl⟩
abbrev main_cst_16 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_17 : Ref sig .tc := ⟨.hbm, 179, rfl⟩
abbrev main_v97 : Ref sig .tc := ⟨.hbm, 180, rfl⟩
abbrev main_v98 : Ref sig .tc := ⟨.hbm, 181, rfl⟩
abbrev main_cst_18 : Ref sig .tc := ⟨.hbm, 182, rfl⟩
abbrev main_v99 : Ref sig .tc := ⟨.hbm, 183, rfl⟩
abbrev main_v100 : Ref sig .tc := ⟨.hbm, 184, rfl⟩
abbrev main_cst_19 : Ref sig .tc := ⟨.hbm, 185, rfl⟩
abbrev main_v101 : Ref sig .tc := ⟨.hbm, 186, rfl⟩
abbrev main_v102 : Ref sig .tc := ⟨.hbm, 187, rfl⟩
abbrev main_cst_20 : Ref sig .tc := ⟨.hbm, 188, rfl⟩
abbrev main_cst_21 : Ref sig .tc := ⟨.hbm, 189, rfl⟩
abbrev main_call2_v0 : Ref sig .tc := ⟨.hbm, 190, rfl⟩
abbrev main_call2_v1 : Ref sig .tc := ⟨.hbm, 191, rfl⟩
abbrev main_call2_v2 : Ref sig .tc := ⟨.hbm, 192, rfl⟩
abbrev main_call2_v3 : Ref sig .tc := ⟨.hbm, 193, rfl⟩
abbrev main_call2_v4 : Ref sig .tc := ⟨.hbm, 194, rfl⟩
abbrev main_v103 : Ref sig .tc := ⟨.hbm, 195, rfl⟩
abbrev main_cst_22 : Ref sig .tc := ⟨.hbm, 196, rfl⟩
abbrev main_cst_23 : Ref sig .tc := ⟨.hbm, 197, rfl⟩
abbrev main_call3_v0 : Ref sig .tc := ⟨.hbm, 198, rfl⟩
abbrev main_call3_v1 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_v104 : Ref sig .tc := ⟨.hbm, 203, rfl⟩
abbrev main_cst_24 : Ref sig .tc := ⟨.hbm, 204, rfl⟩
abbrev main_v105 : Ref sig .tc := ⟨.hbm, 205, rfl⟩
abbrev main_v106 : Ref sig .tc := ⟨.hbm, 206, rfl⟩
abbrev main_cst_25 : Ref sig .tc := ⟨.hbm, 207, rfl⟩
abbrev main_v107 : Ref sig .tc := ⟨.hbm, 208, rfl⟩
abbrev main_v108 : Ref sig .tc := ⟨.hbm, 209, rfl⟩
abbrev main_cst_26 : Ref sig .tc := ⟨.hbm, 210, rfl⟩
abbrev main_v109 : Ref sig .tc := ⟨.hbm, 211, rfl⟩
abbrev main_v110 : Ref sig .tc := ⟨.hbm, 212, rfl⟩
abbrev main_cst_27 : Ref sig .tc := ⟨.hbm, 213, rfl⟩
abbrev main_v111 : Ref sig .tc := ⟨.hbm, 214, rfl⟩
abbrev main_v112 : Ref sig .tc := ⟨.hbm, 215, rfl⟩
abbrev main_cst_28 : Ref sig .tc := ⟨.hbm, 216, rfl⟩
abbrev main_v113 : Ref sig .tc := ⟨.hbm, 217, rfl⟩
abbrev main_v114 : Ref sig .tc := ⟨.hbm, 218, rfl⟩
abbrev main_cst_29 : Ref sig .tc := ⟨.hbm, 219, rfl⟩
abbrev main_v115 : Ref sig .tc := ⟨.hbm, 220, rfl⟩
abbrev main_v116 : Ref sig .tc := ⟨.hbm, 221, rfl⟩
abbrev main_cst_30 : Ref sig .tc := ⟨.hbm, 222, rfl⟩
abbrev main_c_31 : Ref sig .tc := ⟨.hbm, 223, rfl⟩
abbrev main_call4_v0 : Ref sig .tc := ⟨.hbm, 224, rfl⟩
abbrev main_call4_v1 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_v117 : Ref sig .tc := ⟨.hbm, 229, rfl⟩
abbrev main_cst_32 : Ref sig .tc := ⟨.hbm, 230, rfl⟩
abbrev main_c_33 : Ref sig .tc := ⟨.hbm, 231, rfl⟩
abbrev main_call5_v0 : Ref sig .tc := ⟨.hbm, 232, rfl⟩
abbrev main_call5_v1 : Ref sig .tc := ⟨.hbm, 233, rfl⟩
abbrev main_call5_v2 : Ref sig .tc := ⟨.hbm, 234, rfl⟩
abbrev main_call5_v3 : Ref sig .tc := ⟨.hbm, 235, rfl⟩
abbrev main_call5_v4 : Ref sig .tc := ⟨.hbm, 236, rfl⟩
abbrev main_v118 : Ref sig .tc := ⟨.hbm, 237, rfl⟩
abbrev main_v119 : Ref sig .tc := ⟨.hbm, 238, rfl⟩
abbrev main_v120 : Ref sig .tc := ⟨.hbm, 239, rfl⟩
abbrev main_v121 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_c_34 : Ref sig .tc := ⟨.hbm, 244, rfl⟩
abbrev main_v125 : Ref sig .tc := ⟨.hbm, 245, rfl⟩
abbrev main_v126 : Ref sig .tc := ⟨.hbm, 246, rfl⟩
abbrev main_c_35 : Ref sig .tc := ⟨.hbm, 247, rfl⟩
abbrev main_v127 : Ref sig .tc := ⟨.hbm, 248, rfl⟩
abbrev main_v128 : Ref sig .tc := ⟨.hbm, 249, rfl⟩
abbrev main_c_36 : Ref sig .tc := ⟨.hbm, 250, rfl⟩
abbrev main_v129 : Ref sig .tc := ⟨.hbm, 251, rfl⟩
abbrev main_v130 : Ref sig .tc := ⟨.hbm, 252, rfl⟩
abbrev main_c_37 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_c_38 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_call6_c : Ref sig .tc := ⟨.hbm, 261, rfl⟩
abbrev main_call6_v0 : Ref sig .tc := ⟨.hbm, 262, rfl⟩
abbrev main_call6_v1 : Ref sig .tc := ⟨.hbm, 263, rfl⟩
abbrev main_call6_c_0 : Ref sig .tc := ⟨.hbm, 264, rfl⟩
abbrev main_call6_v2 : Ref sig .tc := ⟨.hbm, 265, rfl⟩
abbrev main_call6_v3 : Ref sig .tc := ⟨.hbm, 266, rfl⟩
abbrev main_call6_v4 : Ref sig .tc := ⟨.hbm, 267, rfl⟩
abbrev main_call6_v5 : Ref sig .tc := ⟨.hbm, 268, rfl⟩
abbrev main_call6_c_1 : Ref sig .tc := ⟨.hbm, 269, rfl⟩
abbrev main_call6_c_2 : Ref sig .tc := ⟨.hbm, 270, rfl⟩
abbrev main_call6_v6 : Ref sig .tc := ⟨.hbm, 271, rfl⟩
abbrev main_call6_v7 : Ref sig .tc := ⟨.hbm, 272, rfl⟩
abbrev main_call6_v8 : Ref sig .tc := ⟨.hbm, 273, rfl⟩
abbrev main_call6_v9 : Ref sig .tc := ⟨.hbm, 274, rfl⟩
abbrev main_call6_v10 : Ref sig .tc := ⟨.hbm, 275, rfl⟩
abbrev main_call6_v11 : Ref sig .tc := ⟨.hbm, 276, rfl⟩
abbrev main_call6_c_3 : Ref sig .tc := ⟨.hbm, 277, rfl⟩
abbrev main_call6_v12 : Ref sig .tc := ⟨.hbm, 278, rfl⟩
abbrev main_call6_v13 : Ref sig .tc := ⟨.hbm, 279, rfl⟩
abbrev main_call6_v14 : Ref sig .tc := ⟨.hbm, 280, rfl⟩
abbrev main_call6_cst : Ref sig .tc := ⟨.hbm, 281, rfl⟩
abbrev main_call6_v15 : Ref sig .tc := ⟨.hbm, 282, rfl⟩
abbrev main_v137 : Ref sig .tc := ⟨.hbm, 283, rfl⟩
abbrev main_c_39 : Ref sig .tc := ⟨.hbm, 284, rfl⟩
abbrev main_v138 : Ref sig .tc := ⟨.hbm, 285, rfl⟩
abbrev main_v139 : Ref sig .tc := ⟨.hbm, 286, rfl⟩
abbrev main_v140 : Ref sig .tc := ⟨.hbm, 287, rfl⟩
abbrev main_call7_c : Ref sig .tc := ⟨.hbm, 288, rfl⟩
abbrev main_call7_v0 : Ref sig .tc := ⟨.hbm, 289, rfl⟩
abbrev main_call7_v1 : Ref sig .tc := ⟨.hbm, 290, rfl⟩
abbrev main_call7_c_0 : Ref sig .tc := ⟨.hbm, 291, rfl⟩
abbrev main_call7_v2 : Ref sig .tc := ⟨.hbm, 292, rfl⟩
abbrev main_call7_v3 : Ref sig .tc := ⟨.hbm, 293, rfl⟩
abbrev main_call7_v4 : Ref sig .tc := ⟨.hbm, 294, rfl⟩
abbrev main_call7_v5 : Ref sig .tc := ⟨.hbm, 295, rfl⟩
abbrev main_call7_c_1 : Ref sig .tc := ⟨.hbm, 296, rfl⟩
abbrev main_call7_c_2 : Ref sig .tc := ⟨.hbm, 297, rfl⟩
abbrev main_call7_v6 : Ref sig .tc := ⟨.hbm, 298, rfl⟩
abbrev main_call7_v7 : Ref sig .tc := ⟨.hbm, 299, rfl⟩
abbrev main_call7_v8 : Ref sig .tc := ⟨.hbm, 300, rfl⟩
abbrev main_call7_v9 : Ref sig .tc := ⟨.hbm, 301, rfl⟩
abbrev main_call7_v10 : Ref sig .tc := ⟨.hbm, 302, rfl⟩
abbrev main_call7_v11 : Ref sig .tc := ⟨.hbm, 303, rfl⟩
abbrev main_call7_c_3 : Ref sig .tc := ⟨.hbm, 304, rfl⟩
abbrev main_call7_v12 : Ref sig .tc := ⟨.hbm, 305, rfl⟩
abbrev main_call7_v13 : Ref sig .tc := ⟨.hbm, 306, rfl⟩
abbrev main_call7_v14 : Ref sig .tc := ⟨.hbm, 307, rfl⟩
abbrev main_call7_cst : Ref sig .tc := ⟨.hbm, 308, rfl⟩
abbrev main_call7_v15 : Ref sig .tc := ⟨.hbm, 309, rfl⟩
abbrev main_v141 : Ref sig .tc := ⟨.hbm, 310, rfl⟩
abbrev main_c_40 : Ref sig .tc := ⟨.hbm, 311, rfl⟩
abbrev main_v142 : Ref sig .tc := ⟨.hbm, 312, rfl⟩
abbrev main_v143 : Ref sig .tc := ⟨.hbm, 313, rfl⟩
abbrev main_v144 : Ref sig .tc := ⟨.hbm, 314, rfl⟩
abbrev main_call8_c : Ref sig .tc := ⟨.hbm, 315, rfl⟩
abbrev main_call8_v0 : Ref sig .tc := ⟨.hbm, 316, rfl⟩
abbrev main_call8_v1 : Ref sig .tc := ⟨.hbm, 317, rfl⟩
abbrev main_call8_c_0 : Ref sig .tc := ⟨.hbm, 318, rfl⟩
abbrev main_call8_v2 : Ref sig .tc := ⟨.hbm, 319, rfl⟩
abbrev main_call8_v3 : Ref sig .tc := ⟨.hbm, 320, rfl⟩
abbrev main_call8_v4 : Ref sig .tc := ⟨.hbm, 321, rfl⟩
abbrev main_call8_v5 : Ref sig .tc := ⟨.hbm, 322, rfl⟩
abbrev main_call8_c_1 : Ref sig .tc := ⟨.hbm, 323, rfl⟩
abbrev main_call8_c_2 : Ref sig .tc := ⟨.hbm, 324, rfl⟩
abbrev main_call8_v6 : Ref sig .tc := ⟨.hbm, 325, rfl⟩
abbrev main_call8_v7 : Ref sig .tc := ⟨.hbm, 326, rfl⟩
abbrev main_call8_v8 : Ref sig .tc := ⟨.hbm, 327, rfl⟩
abbrev main_call8_v9 : Ref sig .tc := ⟨.hbm, 328, rfl⟩
abbrev main_call8_v10 : Ref sig .tc := ⟨.hbm, 329, rfl⟩
abbrev main_call8_v11 : Ref sig .tc := ⟨.hbm, 330, rfl⟩
abbrev main_call8_c_3 : Ref sig .tc := ⟨.hbm, 331, rfl⟩
abbrev main_call8_v12 : Ref sig .tc := ⟨.hbm, 332, rfl⟩
abbrev main_call8_v13 : Ref sig .tc := ⟨.hbm, 333, rfl⟩
abbrev main_call8_v14 : Ref sig .tc := ⟨.hbm, 334, rfl⟩
abbrev main_call8_cst : Ref sig .tc := ⟨.hbm, 335, rfl⟩
abbrev main_call8_v15 : Ref sig .tc := ⟨.hbm, 336, rfl⟩
abbrev main_v145 : Ref sig .tc := ⟨.hbm, 337, rfl⟩
abbrev main_c_41 : Ref sig .tc := ⟨.hbm, 338, rfl⟩
abbrev main_v146 : Ref sig .tc := ⟨.hbm, 339, rfl⟩
abbrev main_v147 : Ref sig .tc := ⟨.hbm, 340, rfl⟩
abbrev main_v148 : Ref sig .tc := ⟨.hbm, 341, rfl⟩
abbrev main_call9_c : Ref sig .tc := ⟨.hbm, 342, rfl⟩
abbrev main_call9_v0 : Ref sig .tc := ⟨.hbm, 343, rfl⟩
abbrev main_call9_v1 : Ref sig .tc := ⟨.hbm, 344, rfl⟩
abbrev main_call9_c_0 : Ref sig .tc := ⟨.hbm, 345, rfl⟩
abbrev main_call9_v2 : Ref sig .tc := ⟨.hbm, 346, rfl⟩
abbrev main_call9_v3 : Ref sig .tc := ⟨.hbm, 347, rfl⟩
abbrev main_call9_v4 : Ref sig .tc := ⟨.hbm, 348, rfl⟩
abbrev main_call9_v5 : Ref sig .tc := ⟨.hbm, 349, rfl⟩
abbrev main_call9_c_1 : Ref sig .tc := ⟨.hbm, 350, rfl⟩
abbrev main_call9_c_2 : Ref sig .tc := ⟨.hbm, 351, rfl⟩
abbrev main_call9_v6 : Ref sig .tc := ⟨.hbm, 352, rfl⟩
abbrev main_call9_v7 : Ref sig .tc := ⟨.hbm, 353, rfl⟩
abbrev main_call9_v8 : Ref sig .tc := ⟨.hbm, 354, rfl⟩
abbrev main_call9_v9 : Ref sig .tc := ⟨.hbm, 355, rfl⟩
abbrev main_call9_v10 : Ref sig .tc := ⟨.hbm, 356, rfl⟩
abbrev main_call9_v11 : Ref sig .tc := ⟨.hbm, 357, rfl⟩
abbrev main_call9_c_3 : Ref sig .tc := ⟨.hbm, 358, rfl⟩
abbrev main_call9_v12 : Ref sig .tc := ⟨.hbm, 359, rfl⟩
abbrev main_call9_v13 : Ref sig .tc := ⟨.hbm, 360, rfl⟩
abbrev main_call9_v14 : Ref sig .tc := ⟨.hbm, 361, rfl⟩
abbrev main_call9_cst : Ref sig .tc := ⟨.hbm, 362, rfl⟩
abbrev main_call9_v15 : Ref sig .tc := ⟨.hbm, 363, rfl⟩
abbrev main_v149 : Ref sig .tc := ⟨.hbm, 364, rfl⟩
abbrev main_cst_42 : Ref sig .tc := ⟨.hbm, 365, rfl⟩
abbrev main_v150 : Ref sig .tc := ⟨.hbm, 366, rfl⟩
abbrev main_v151 : Ref sig .tc := ⟨.hbm, 367, rfl⟩
abbrev main_cst_43 : Ref sig .tc := ⟨.hbm, 368, rfl⟩
abbrev main_v152 : Ref sig .tc := ⟨.hbm, 369, rfl⟩
abbrev main_v153 : Ref sig .tc := ⟨.hbm, 370, rfl⟩
abbrev main_v154 : Ref sig .tc := ⟨.hbm, 371, rfl⟩
abbrev main_v155 : Ref sig .tc := ⟨.hbm, 372, rfl⟩
abbrev main_v156 : Ref sig .tc := ⟨.hbm, 373, rfl⟩
abbrev main_v157 : Ref sig .tc := ⟨.hbm, 374, rfl⟩
abbrev main_cst_44 : Ref sig .tc := ⟨.hbm, 375, rfl⟩
abbrev main_v158 : Ref sig .tc := ⟨.hbm, 376, rfl⟩
abbrev main_v159 : Ref sig .tc := ⟨.hbm, 377, rfl⟩
abbrev main_v160 : Ref sig .tc := ⟨.hbm, 378, rfl⟩
abbrev main_v161 : Ref sig .tc := ⟨.hbm, 379, rfl⟩
abbrev main_v162 : Ref sig .tc := ⟨.hbm, 380, rfl⟩
abbrev main_v163 : Ref sig .tc := ⟨.hbm, 381, rfl⟩
abbrev main_v164 : Ref sig .tc := ⟨.hbm, 382, rfl⟩
abbrev main_cst_45 : Ref sig .tc := ⟨.hbm, 383, rfl⟩
abbrev main_v165 : Ref sig .tc := ⟨.hbm, 384, rfl⟩
abbrev main_v166 : Ref sig .tc := ⟨.hbm, 385, rfl⟩
abbrev main_v167 : Ref sig .tc := ⟨.hbm, 386, rfl⟩
abbrev main_v168 : Ref sig .tc := ⟨.hbm, 387, rfl⟩
abbrev main_v169 : Ref sig .tc := ⟨.hbm, 388, rfl⟩
abbrev main_v170 : Ref sig .tc := ⟨.hbm, 389, rfl⟩
abbrev main_v171 : Ref sig .tc := ⟨.hbm, 390, rfl⟩
abbrev main_v172 : Ref sig .tc := ⟨.hbm, 391, rfl⟩
abbrev main_v173 : Ref sig .tc := ⟨.hbm, 392, rfl⟩
abbrev main_v174 : Ref sig .tc := ⟨.hbm, 393, rfl⟩
abbrev main_v175 : Ref sig .tc := ⟨.hbm, 394, rfl⟩
abbrev main_v176 : Ref sig .tc := ⟨.hbm, 395, rfl⟩
abbrev main_cst_46 : Ref sig .tc := ⟨.hbm, 396, rfl⟩
abbrev main_v177 : Ref sig .tc := ⟨.hbm, 397, rfl⟩
abbrev main_v178 : Ref sig .tc := ⟨.hbm, 398, rfl⟩
abbrev main_cst_47 : Ref sig .tc := ⟨.hbm, 399, rfl⟩
abbrev main_v179 : Ref sig .tc := ⟨.hbm, 400, rfl⟩
abbrev main_v180 : Ref sig .tc := ⟨.hbm, 401, rfl⟩
abbrev main_v181 : Ref sig .tc := ⟨.hbm, 402, rfl⟩
abbrev main_v182 : Ref sig .tc := ⟨.hbm, 403, rfl⟩
abbrev main_v183 : Ref sig .tc := ⟨.hbm, 404, rfl⟩
abbrev main_v184 : Ref sig .tc := ⟨.hbm, 405, rfl⟩
abbrev main_v185 : Ref sig .tc := ⟨.hbm, 406, rfl⟩
abbrev main_cst_48 : Ref sig .tc := ⟨.hbm, 407, rfl⟩
abbrev main_v186 : Ref sig .tc := ⟨.hbm, 408, rfl⟩

abbrev nD : Nat := 1
abbrev τ : Topo := Topo.v7x

variable {F : FTy → Type} [FloatOps F]
-- ==== Proof.Spec.lean ====
/-
  The functions of one query row that the kernel and the reference are compared through, over the extended reals.

  A row has a query `q` of 256 features and a projected point `p` of two coordinates; together they are the 258
  features of `row`. Two perceptrons read the row after a layer normalisation: one predicts the eight sampling
  offsets, the other the eight weights. The kernel never forms the normalised row; its way of computing the first
  hidden layer is `hidKernel` with the factor `invKernel` taken out, the reference's is `hidReference`.
-/
module

public import Idealize.ShloMosaic.Lib.Pointwise

@[expose] public section

noncomputable section

namespace Cert.Sample

open Idealize.ShloMosaic

/-- The 258 features of a row: the 256 of the query, then the two coordinates of its point. -/
def row (q : Fin 256 → EReal) (p : Fin 2 → EReal) (k : Fin 258) : EReal :=
  if h : k.val < 256 then q ⟨k.val, h⟩ else p ⟨k.val - 256, by omega⟩

/-- The last two layers of a perceptron read at one output: the second layer's matrix and rectifier, then one column
    of the third layer's matrix. -/
def dense (h : Fin 512 → EReal) (W2 : Fin 512 → Fin 512 → EReal) (W3 : Fin 512 → EReal) : EReal :=
  ∑ x, max (∑ y, h y * W2 y x) 0 * W3 x

/-! ## The kernel's first layer -/

/-- The mean of the row as the kernel computes it: the sum of its parts times 1/258. -/
def meanKernel (q : Fin 256 → EReal) (p : Fin 2 → EReal) : EReal :=
  (∑ x, q x + p 0 + p 1) * ((1 / 258 : ℝ) : EReal)

/-- The reciprocal of the row's standard deviation as the kernel computes it: from the mean of the squares less the
    square of the mean, with `1e-5` added. -/
def invKernel (q : Fin 256 → EReal) (p : Fin 2 → EReal) : EReal :=
  Ideal.rsqrt ((∑ x, q x * q x + p 0 * p 0 + p 1 * p 1) * ((1 / 258 : ℝ) : EReal)
    - meanKernel q p * meanKernel q p + Ideal.ofBits .f32 0x3727C5AC#32)

/-- The kernel's first hidden layer before the division by the standard deviation: the row's product with the matrix
    less the mean times the matrix's column sum, rectified. -/
def hidKernel (q : Fin 256 → EReal) (p : Fin 2 → EReal) (W : Fin 258 → Fin 512 → EReal) (j : Fin 512) : EReal :=
  max (∑ x : Fin 256, q x * W ⟨x.val, by omega⟩ j + ∑ x : Fin 2, p x * W ⟨256 + x.val, by omega⟩ j
    - meanKernel q p * ∑ x, W x j) 0

/-- One output of a perceptron as the kernel computes it. -/
def rawKernel (q : Fin 256 → EReal) (p : Fin 2 → EReal) (W : Fin 258 → Fin 512 → EReal)
    (W2 : Fin 512 → Fin 512 → EReal) (W3 : Fin 512 → EReal) (b : EReal) : EReal :=
  invKernel q p * dense (hidKernel q p W) W2 W3 + b

/-! ## The reference's first layer -/

/-- The mean of a row of 258 features. -/
def meanReference (x : Fin 258 → EReal) : EReal := Ideal.div (∑ k, x k) ((258 : ℝ) : EReal)

/-- The standard deviation of a row of 258 features, `1e-5` added to the variance. -/
def devReference (x : Fin 258 → EReal) : EReal :=
  Ideal.sqrt (Ideal.div (∑ k, (x k - meanReference x) * (x k - meanReference x)) ((258 : ℝ) : EReal)
    + Ideal.ofBits .f32 0x3727C5AC#32)

/-- The reference's first hidden layer: the normalised row's product with the matrix, rectified. -/
def hidReference (x : Fin 258 → EReal) (W : Fin 258 → Fin 512 → EReal) (j : Fin 512) : EReal :=
  max (∑ k, Ideal.div (x k - meanReference x) (devReference x) * W k j) 0

/-! ## The weights -/

/-- The largest of eight scores. -/
def peak (r : Fin 8 → EReal) : EReal := Finset.univ.fold max ⊥ r

/-- A score's exponential, the largest score taken off first. -/
def expScore (r : Fin 8 → EReal) (x : Fin 8) : EReal := Ideal.exp (r x - peak r)

/-- The soft maximum of eight scores. -/
def soft (r : Fin 8 → EReal) (x : Fin 8) : EReal := Ideal.div (expScore r x) (∑ y, expScore r y)

/-- The weight of a sampling point: the soft maximum divided by its own sum, that sum kept from zero. -/
def share (r : Fin 8 → EReal) (x : Fin 8) : EReal :=
  Ideal.div (soft r x) (max (∑ y, soft r y) (Ideal.ofBits .f32 0x322BCC77#32))

/-! ## The sampled position -/

/-- A sampling point's coordinate in pixels before clamping: the projected point's plus twice the offset's hyperbolic
    tangent. -/
def place (p : EReal) (o : EReal) : EReal := p + Ideal.tanh o * ((2 : ℝ) : EReal)

/-- The coordinate after it has been normalised to the map's width, clamped, scaled back and clamped to the map. -/
def pixel (c : EReal) : EReal :=
  min ((127 : ℝ) : EReal) (max 0 ((min (Ideal.ofBits .f32 0x3F8CCCCD#32) (max (Ideal.ofBits .f32 0xBF8CCCCD#32)
    (Ideal.div (((2 : ℝ) : EReal) * c) ((127 : ℝ) : EReal) - 1)) + 1) * Ideal.ofBits .f32 0x3F000000#32
      * ((127 : ℝ) : EReal)))

/-- The pixel on the lower side of the coordinate. -/
def cell (c : EReal) : EReal := Ideal.liftRound Int.floor (pixel c)

/-- How far the coordinate lies beyond that pixel. -/
def frac (c : EReal) : EReal := pixel c - cell c

/-! ## One sample -/

/-- One axis's weight of the kernel at position `i` of its four: `1 - frac` on the lower pixel, `frac` on the next. -/
def tap (c : EReal) (i : EReal) : EReal :=
  (if cell c = i then 1 - frac c else 0) + if cell c + 1 = i then frac c else 0

/-- One feature of the map at line `y` and column `x`. -/
def texel (fm : FVec Ideal ⟨3, ![128, 128, 256]⟩ .f32) (y x : ℕ) (ch : Fin 256) : EReal :=
  fm (ix3 ⟨y % 128, Nat.mod_lt _ (by norm_num)⟩ ⟨x % 128, Nat.mod_lt _ (by norm_num)⟩ ch)

/-- The kernel's coordinates in pixels before clamping: the even ones are columns, the odd ones lines. -/
def spot (q : Fin 256 → EReal) (p : Fin 2 → EReal) (W1 : Fin 258 → Fin 512 → EReal) (W2 : Fin 512 → Fin 512 → EReal)
    (W3 : Fin 512 → Fin 16 → EReal) (b : Fin 16 → EReal) (k : Fin 16) : EReal :=
  place (p ⟨k.val % 2, Nat.mod_lt _ (by norm_num)⟩) (rawKernel q p W1 W2 (fun x => W3 x k) (b k))

/-- The number of a sampling point's column coordinate among the sixteen. -/
def column (o : Fin 8) : Fin 16 := ⟨o.val * 2, by omega⟩

/-- The number of a sampling point's line coordinate among the sixteen. -/
def line (o : Fin 8) : Fin 16 := ⟨o.val * 2 + 1, by omega⟩

/-- The kernel's eight scores. -/
def score (q : Fin 256 → EReal) (p : Fin 2 → EReal) (W1 : Fin 258 → Fin 512 → EReal) (W2 : Fin 512 → Fin 512 → EReal)
    (W3 : Fin 512 → Fin 8 → EReal) (b : Fin 8 → EReal) (o : Fin 8) : EReal :=
  rawKernel q p W1 W2 (fun x => W3 x o) (b o)

/-- The sampling point of one of the 128 lanes. -/
def lanePoint (l : Fin 128) : Fin 8 := ⟨l.val / 16, by omega⟩

/-- The kernel's sum over 128 lanes: the lane of sampling point `o`, line `y` and column `x` is `16 o + 4 y + x`, its
    weight is that of the point and of the two axes, and its value is the map's at that line and column. -/
def laneSum (w : Fin 8 → EReal) (c : Fin 16 → EReal) (T : ℕ → ℕ → EReal) : EReal :=
  ∑ l : Fin 128, w (lanePoint l) * tap (c (column (lanePoint l))) (((l.val % 4 : ℕ) : ℝ) : EReal)
    * tap (c (line (lanePoint l))) (((l.val / 4 % 4 : ℕ) : ℝ) : EReal) * T (l.val / 4 % 4) (l.val % 4)

/-- The bilinear blend of four values. -/
def blend (wx wy v00 v01 v10 v11 : EReal) : EReal :=
  (1 - wy) * (1 - wx) * v00 + (1 - wy) * wx * v01 + wy * (1 - wx) * v10 + wy * wx * v11

end Cert.Sample

end
-- ==== Proof.Consts.lean ====
/-
  The values, as extended reals, of the constant patterns that the kernel and the reference print.
-/
module

public import Idealize.ShloMosaic.Lib.Pointwise

@[expose] public section

noncomputable section

namespace Cert.Consts

open Idealize.ShloMosaic

/-- The offsets' scale denotes 2. -/
theorem two : Ideal.ofBits .f32 0x40000000#32 = ((2 : ℝ) : EReal) := by
  simp [Ideal.ofBits, Ideal.ieee, -EReal.coe_mul]; norm_num

/-- The map's width less one denotes 127. -/
theorem width : Ideal.ofBits .f32 0x42FE0000#32 = ((127 : ℝ) : EReal) := by
  simp [Ideal.ofBits, Ideal.ieee, -EReal.coe_mul]; norm_num

/-- The number of features of a row denotes 258. -/
theorem features : Ideal.ofBits .f32 0x43810000#32 = ((258 : ℝ) : EReal) := by
  simp [Ideal.ofBits, Ideal.ieee, -EReal.coe_mul]; norm_num

/-- The factor of the rescaling denotes one half. -/
theorem half : Ideal.ofBits .f32 0x3F000000#32 = ((1 / 2 : ℝ) : EReal) := by
  simp [Ideal.ofBits, Ideal.ieee, -EReal.coe_mul]; norm_num

/-- The upper clamp of a normalised coordinate, 1.1 rounded. -/
theorem clampHigh : Ideal.ofBits .f32 0x3F8CCCCD#32 = ((9227469 / 8388608 : ℝ) : EReal) := by
  simp [Ideal.ofBits, Ideal.ieee, -EReal.coe_mul]; norm_num

/-- The lower clamp of a normalised coordinate, the negative of the upper. -/
theorem clampLow : Ideal.ofBits .f32 0xBF8CCCCD#32 = ((-(9227469 / 8388608) : ℝ) : EReal) := by
  simp [Ideal.ofBits, Ideal.ieee, -EReal.coe_mul, -EReal.coe_neg]; norm_num

/-- The number added to the variance is a positive real. -/
theorem eps : ∃ e : ℝ, 0 < e ∧ Ideal.ofBits .f32 0x3727C5AC#32 = (e : EReal) := by
  refine ⟨_, ?_, by simp [Ideal.ofBits, Ideal.ieee, -EReal.coe_mul]; rfl⟩
  norm_num

/-- The lower bound of the weights' sum is a positive real. -/
theorem tiny : ∃ e : ℝ, 0 < e ∧ Ideal.ofBits .f32 0x322BCC77#32 = (e : EReal) := by
  refine ⟨_, ?_, by simp [Ideal.ofBits, Ideal.ieee, -EReal.coe_mul]; rfl⟩
  norm_num

/-- The starting value of a maximum denotes the least extended real. -/
theorem least : Ideal.ofBits .f32 0xFF800000#32 = ⊥ := by
  simp [Ideal.ofBits, Ideal.ieee]

/-- The bound of the finite values denotes the greatest extended real. -/
theorem greatest : Ideal.ofBits .f32 0x7F800000#32 = ⊤ := by
  simp [Ideal.ofBits, Ideal.ieee]

end Cert.Consts

end
-- ==== Proof.Words.lean ====
/-
  The index words by which the kernel picks lanes and columns, and the sums that pick one term by such a word.
-/
module

public import proofs.«01_k».proof.Proof.Spec

@[expose] public section

noncomputable section

namespace Cert.Sample

open Idealize.ShloMosaic

/-- A comparison of two words for equality, widened and read as a number, is one or zero. -/
theorem mark (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · subst h; simp [IntOp.cmpi]
  · have : (a == b) = false := by simpa using h
    simp [IntOp.cmpi, this, h]

/-- A sum weighted by the marks of one term is that term. -/
theorem pick {n : ℕ} (v : Fin n → EReal) (P : Fin n → Prop) [DecidablePred P] (k : Fin n) (h : ∀ x, P x ↔ x = k) :
    ∑ x, v x * (if P x then (1 : EReal) else 0) = v k := by
  have e : ∀ x, v x * (if P x then (1 : EReal) else 0) = if x = k then v x else 0 := fun x => by
    by_cases hx : x = k
    · rw [if_pos ((h x).mpr hx), if_pos hx, mul_one]
    · rw [if_neg (fun hp => hx ((h x).mp hp)), if_neg hx, mul_zero]
  simp only [e, Finset.sum_ite_eq', Finset.mem_univ, if_true]

/-- The low bit of a coordinate's number names its axis. -/
theorem axis_word : ∀ (p : Fin 16) (x : Fin 2),
    (IntOp.andi (BitVec.ofNat 32 p.val) 1#32 = BitVec.ofNat 32 x.val) ↔ x = ⟨p.val % 2, Nat.mod_lt _ (by norm_num)⟩ := by
  decide +kernel

/-- A lane's first coordinate: twice the number of its sampling point. -/
theorem column_word : ∀ (l : Fin 128) (x : Fin 16),
    (BitVec.ofNat 32 x.val = IntOp.muli 2#32 (IntOp.shrsi .vector (BitVec.ofNat 32 l.val) 4#32)) ↔ x = ⟨l.val / 16 * 2, by omega⟩ := by
  decide +kernel

/-- A lane's second coordinate: the one after the first. -/
theorem line_word : ∀ (l : Fin 128) (x : Fin 16),
    (BitVec.ofNat 32 x.val = IntOp.addi (IntOp.muli 2#32 (IntOp.shrsi .vector (BitVec.ofNat 32 l.val) 4#32)) 1#32)
      ↔ x = ⟨l.val / 16 * 2 + 1, by omega⟩ := by
  decide +kernel

/-- A lane's sampling point. -/
theorem point_word : ∀ (l : Fin 128) (x : Fin 8),
    (BitVec.ofNat 32 x.val = IntOp.shrsi .vector (BitVec.ofNat 32 l.val) 4#32) ↔ x = ⟨l.val / 16, by omega⟩ := by
  decide +kernel

/-- A lane's column in the patch. -/
theorem column_value : ∀ l : Fin 128, (IntOp.andi (BitVec.ofNat 32 l.val) 3#32).toInt = (l.val % 4 : ℕ) := by
  decide +kernel

/-- A lane's line in the patch. -/
theorem line_value : ∀ l : Fin 128,
    (IntOp.andi (IntOp.shrsi .vector (BitVec.ofNat 32 l.val) 2#32) 3#32).toInt = (l.val / 4 % 4 : ℕ) := by
  decide +kernel

end Cert.Sample

end
-- ==== Proof.KernelRow.lean ====
/-
  What one block of the kernel computes, read at one row: the perceptrons' outputs, the weights and the sampled pixels
  of that row, in the functions of `Spec.lean`.
-/
module

public import proofs.«01_k».proof.Proof.Gen.KernelIdeal.Value
public import proofs.«01_k».proof.Proof.Spec
public import proofs.«01_k».proof.Proof.Consts
public import proofs.«01_k».proof.Proof.Words
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Value Cert.Sample

/-- The named constant is 1/258. -/
theorem inverse : (Named.named (F := Ideal) κ "inv_din" (φ := .f32) 0x3B7E03F8#32 : EReal) = ((1 / 258 : ℝ) : EReal) :=
  IdealRules.named_const.ideal_named_scalar _ _ _ _ rfl

section
variable (x0 : FVec Ideal S2048x256 .f32) (x1 : FVec Ideal S2048x2 .f32) (x2 x3 : FVec Ideal S258x512 .f32)
  (x4 : FVec Ideal S512x512 .f32) (x5 : FVec Ideal S512x16 .f32) (x6 : FVec Ideal S1x16 .f32) (x7 : FVec Ideal S512x512 .f32)
  (x8 : FVec Ideal S512x8 .f32) (x9 : FVec Ideal S1x8 .f32) (x10 : FVec Ideal S128x256 .f32)

/-- The query of a row. -/
def query (r : Fin 2048) (k : Fin 256) : EReal := x0 (ix2 r k)

/-- The projected point of a row. -/
def point (r : Fin 2048) (a : Fin 2) : EReal := x1 (ix2 r a)

/-- The mean of a row. -/
theorem mean_at (r : Fin 2048) :
    k0_pay33 (F := Ideal) x0 x1 x2 x3 x4 x5 x6 x7 x8 x9 x10 (ix2 r 0) = meanKernel (query x0 r) (point x1 r) := by
  unfold k0_pay33
  frame_out
  pointwise [k0_pay11, k0_pay9, k0_pay2, k0_pay3, mul_one, inverse]
  rfl

/-- The reciprocal of the standard deviation of a row. -/
theorem inv_at (r : Fin 2048) :
    k0_pay13 (F := Ideal) (k0_pay31 x0 x1 x2 x3 x4 x5 x6 x7 x8 x9 x10) (k0_pay32 x0 x1 x2 x3 x4 x5 x6 x7 x8 x9 x10)
      (k0_pay33 x0 x1 x2 x3 x4 x5 x6 x7 x8 x9 x10) (k0_pay34 x0 x1 x2 x3 x4 x5 x6 x7 x8 x9 x10) (ix2 r 0)
      = invKernel (query x0 r) (point x1 r) := by
  unfold k0_pay31 k0_pay32 k0_pay34
  frame_out
  pointwise [k0_pay13, k0_pay12, k0_pay10, k0_pay9, k0_pay2, k0_pay3, mul_one, inverse, mean_at]
  rfl

/-- The row's product with the first matrix of the perceptron that predicts the offsets. -/
theorem product_at (r : Fin 2048) (j : Fin 512) :
    k0_pay4 (F := Ideal) x0 x1 (View.ld x2 r0_2) (View.ld x2 r0_3) (ix2 r j)
      = ∑ k : Fin 256, query x0 r k * x2 (ix2 ⟨k.val, by omega⟩ j) + ∑ a : Fin 2, point x1 r a * x2 (ix2 ⟨256 + a.val, by omega⟩ j) := by
  pointwise [k0_pay4]
  rfl

/-- The row's product with the first matrix of the perceptron that predicts the weights. -/
theorem product_at' (r : Fin 2048) (j : Fin 512) :
    k0_pay5 (F := Ideal) x0 x1 (View.ld x3 r0_2) (View.ld x3 r0_3) (ix2 r j)
      = ∑ k : Fin 256, query x0 r k * x3 (ix2 ⟨k.val, by omega⟩ j) + ∑ a : Fin 2, point x1 r a * x3 (ix2 ⟨256 + a.val, by omega⟩ j) := by
  pointwise [k0_pay5]
  rfl

/-- The column sums of the first matrix, for the offsets. -/
theorem columns_at (j : Fin 512) : k0_pay7 (F := Ideal) x2 (ix2 0 j) = ∑ k, x2 (ix2 k j) := by
  pointwise [k0_pay7, k0_pay6, one_mul]

/-- The column sums of the first matrix, for the weights. -/
theorem columns_at' (j : Fin 512) : k0_pay8 (F := Ideal) x3 (ix2 0 j) = ∑ k, x3 (ix2 k j) := by
  pointwise [k0_pay8, k0_pay6, one_mul]

/-- The sixteen coordinates of a row, in pixels before clamping. -/
def spots (r : Fin 2048) : Fin 16 → EReal :=
  spot (query x0 r) (point x1 r) (fun k j => x2 (ix2 k j)) (fun y x => x4 (ix2 y x)) (fun x p => x5 (ix2 x p)) (fun p => x6 (ix2 0 p))

/-- The eight predicted scores of a row. -/
def scores (r : Fin 2048) : Fin 8 → EReal :=
  score (query x0 r) (point x1 r) (fun k j => x3 (ix2 k j)) (fun y x => x7 (ix2 y x)) (fun x o => x8 (ix2 x o)) (fun o => x9 (ix2 0 o))

/-- The kernel's offsets. -/
theorem offset_at (r : Fin 2048) (p : Fin 16) :
    k0_pay14 (F := Ideal) (k0_pay31 x0 x1 x2 x3 x4 x5 x6 x7 x8 x9 x10) (k0_pay4 x0 x1 (View.ld x2 r0_2) (View.ld x2 r0_3))
      (k0_pay7 x2) (k0_pay32 x0 x1 x2 x3 x4 x5 x6 x7 x8 x9 x10) (k0_pay33 x0 x1 x2 x3 x4 x5 x6 x7 x8 x9 x10)
      (k0_pay34 x0 x1 x2 x3 x4 x5 x6 x7 x8 x9 x10) x4 x5 x6 (ix2 r p)
      = rawKernel (query x0 r) (point x1 r) (fun k j => x2 (ix2 k j)) (fun y x => x4 (ix2 y x)) (fun x => x5 (ix2 x p)) (x6 (ix2 0 p)) := by
  pointwise [k0_pay14, inv_at, mean_at, product_at, columns_at]
  rfl

/-- The kernel's coordinates after clamping. -/
theorem pixel_at (r : Fin 2048) (p : Fin 16) :
    k0_pay18 (F := Ideal) (k0_pay35 x0 x1 x2 x3 x4 x5 x6 x7 x8 x9 x10) (ix2 r p) = pixel (spots x0 x1 x2 x4 x5 x6 r p) := by
  unfold k0_pay35
  frame_out
  pointwise [k0_pay18, k0_pay17, offset_at, mark, Consts.two, Consts.width]
  rw [pick (fun x => x1 (ix2 r x)) _ _ (axis_word p)]
  rfl

/-- The pixel below a coordinate. -/
theorem cell_at (r : Fin 2048) (p : Fin 16) :
    k0_pay19 (F := Ideal) (k0_pay35 x0 x1 x2 x3 x4 x5 x6 x7 x8 x9 x10) (ix2 r p) = cell (spots x0 x1 x2 x4 x5 x6 r p) := by
  pointwise [k0_pay19, pixel_at]
  rfl

/-- The distance beyond it. -/
theorem frac_at (r : Fin 2048) (p : Fin 16) :
    k0_pay20 (F := Ideal) (k0_pay35 x0 x1 x2 x3 x4 x5 x6 x7 x8 x9 x10) (ix2 r p) = frac (spots x0 x1 x2 x4 x5 x6 r p) := by
  pointwise [k0_pay20, cell_at, pixel_at]
  rfl

/-- The pixel below a lane's column coordinate. -/
theorem lane_across_cell (r : Fin 2048) (l : Fin 128) :
    k0_pay24 (F := Ideal) (k0_pay35 x0 x1 x2 x3 x4 x5 x6 x7 x8 x9 x10) (ix2 r l) = cell (spots x0 x1 x2 x4 x5 x6 r (column (lanePoint l))) := by
  pointwise [k0_pay24, k0_pay22, k0_pay21, cell_at, mark]
  exact pick (fun p => cell (spots x0 x1 x2 x4 x5 x6 r p)) _ _ (column_word l)

/-- The pixel below a lane's line coordinate. -/
theorem lane_down_cell (r : Fin 2048) (l : Fin 128) :
    k0_pay25 (F := Ideal) (k0_pay35 x0 x1 x2 x3 x4 x5 x6 x7 x8 x9 x10) (ix2 r l) = cell (spots x0 x1 x2 x4 x5 x6 r (line (lanePoint l))) := by
  pointwise [k0_pay25, k0_pay23, k0_pay22, k0_pay21, cell_at, mark]
  exact pick (fun p => cell (spots x0 x1 x2 x4 x5 x6 r p)) _ _ (line_word l)

/-- The distance of a lane's column coordinate beyond that pixel. -/
theorem lane_across_frac (r : Fin 2048) (l : Fin 128) :
    k0_pay26 (F := Ideal) (k0_pay35 x0 x1 x2 x3 x4 x5 x6 x7 x8 x9 x10) (ix2 r l) = frac (spots x0 x1 x2 x4 x5 x6 r (column (lanePoint l))) := by
  pointwise [k0_pay26, k0_pay22, k0_pay21, frac_at, mark]
  exact pick (fun p => frac (spots x0 x1 x2 x4 x5 x6 r p)) _ _ (column_word l)

/-- The distance of a lane's line coordinate beyond that pixel. -/
theorem lane_down_frac (r : Fin 2048) (l : Fin 128) :
    k0_pay27 (F := Ideal) (k0_pay35 x0 x1 x2 x3 x4 x5 x6 x7 x8 x9 x10) (ix2 r l) = frac (spots x0 x1 x2 x4 x5 x6 r (line (lanePoint l))) := by
  pointwise [k0_pay27, k0_pay23, k0_pay22, k0_pay21, frac_at, mark]
  exact pick (fun p => frac (spots x0 x1 x2 x4 x5 x6 r p)) _ _ (line_word l)

/-- The eight weights of a row. -/
theorem share_at (r : Fin 2048) (o : Fin 8) :
    k0_pay16 (F := Ideal)
      (k0_pay13 (k0_pay31 x0 x1 x2 x3 x4 x5 x6 x7 x8 x9 x10) (k0_pay32 x0 x1 x2 x3 x4 x5 x6 x7 x8 x9 x10)
        (k0_pay33 x0 x1 x2 x3 x4 x5 x6 x7 x8 x9 x10) (k0_pay34 x0 x1 x2 x3 x4 x5 x6 x7 x8 x9 x10))
      (k0_pay15 (k0_pay5 x0 x1 (View.ld x3 r0_2) (View.ld x3 r0_3)) (k0_pay8 x3) (k0_pay33 x0 x1 x2 x3 x4 x5 x6 x7 x8 x9 x10) x7 x8)
      x9 (ix2 r o)
      = share (scores x0 x1 x3 x7 x8 x9 r) o := by
  pointwise [k0_pay16, k0_pay15, inv_at, mean_at, product_at', columns_at', Consts.least]
  rfl

/-- The weight of a lane's sampling point. -/
theorem lane_share (r : Fin 2048) (l : Fin 128) :
    k0_pay28 (F := Ideal) (k0_pay16
      (k0_pay13 (k0_pay31 x0 x1 x2 x3 x4 x5 x6 x7 x8 x9 x10) (k0_pay32 x0 x1 x2 x3 x4 x5 x6 x7 x8 x9 x10)
        (k0_pay33 x0 x1 x2 x3 x4 x5 x6 x7 x8 x9 x10) (k0_pay34 x0 x1 x2 x3 x4 x5 x6 x7 x8 x9 x10))
      (k0_pay15 (k0_pay5 x0 x1 (View.ld x3 r0_2) (View.ld x3 r0_3)) (k0_pay8 x3) (k0_pay33 x0 x1 x2 x3 x4 x5 x6 x7 x8 x9 x10) x7 x8)
      x9) (ix2 r l)
      = share (scores x0 x1 x3 x7 x8 x9 r) (lanePoint l) := by
  pointwise [k0_pay28, share_at, mark]
  exact pick (fun o => share (scores x0 x1 x3 x7 x8 x9 r) o) _ _ (point_word l)

/-- One entry of the block: the sum over the 128 lanes of the weighted patch. -/
theorem block_at (r : Fin 2048) (ch : Fin 256) (T : ℕ → ℕ → EReal) (hT : ∀ l : Fin 128, x10 (ix2 l ch) = T (l.val / 4 % 4) (l.val % 4)) :
    k0_pay1 (F := Ideal) (k0_pay24 (k0_pay35 x0 x1 x2 x3 x4 x5 x6 x7 x8 x9 x10)) (k0_pay25 (k0_pay35 x0 x1 x2 x3 x4 x5 x6 x7 x8 x9 x10))
      (k0_pay26 (k0_pay35 x0 x1 x2 x3 x4 x5 x6 x7 x8 x9 x10)) (k0_pay27 (k0_pay35 x0 x1 x2 x3 x4 x5 x6 x7 x8 x9 x10))
      (k0_pay28 (k0_pay16
        (k0_pay13 (k0_pay31 x0 x1 x2 x3 x4 x5 x6 x7 x8 x9 x10) (k0_pay32 x0 x1 x2 x3 x4 x5 x6 x7 x8 x9 x10)
          (k0_pay33 x0 x1 x2 x3 x4 x5 x6 x7 x8 x9 x10) (k0_pay34 x0 x1 x2 x3 x4 x5 x6 x7 x8 x9 x10))
        (k0_pay15 (k0_pay5 x0 x1 (View.ld x3 r0_2) (View.ld x3 r0_3)) (k0_pay8 x3) (k0_pay33 x0 x1 x2 x3 x4 x5 x6 x7 x8 x9 x10) x7 x8)
        x9)) k0_pay29 k0_pay30 x10 (ix2 r ch)
      = laneSum (share (scores x0 x1 x3 x7 x8 x9 r)) (spots x0 x1 x2 x4 x5 x6 r) T := by
  have hc : ∀ l : Fin 128, (FloatOps.sitofp (F := Ideal) .f32 (IntOp.andi (BitVec.ofNat 32 l.val) 3#32) : EReal)
      = (((l.val % 4 : ℕ) : ℝ) : EReal) := fun l => by
    show (((IntOp.andi (BitVec.ofNat 32 l.val) 3#32).toInt : ℝ) : EReal) = _
    rw [column_value, Int.cast_natCast]
  have hl : ∀ l : Fin 128, (FloatOps.sitofp (F := Ideal) .f32 (IntOp.andi (IntOp.shrsi .vector (BitVec.ofNat 32 l.val) 2#32) 3#32) : EReal)
      = (((l.val / 4 % 4 : ℕ) : ℝ) : EReal) := fun l => by
    show (((IntOp.andi (IntOp.shrsi .vector (BitVec.ofNat 32 l.val) 2#32) 3#32).toInt : ℝ) : EReal) = _
    rw [line_value, Int.cast_natCast]
  pointwise [k0_pay1, k0_pay29, k0_pay30, lane_across_cell, lane_down_cell, lane_across_frac, lane_down_frac, lane_share, hc, hl]
  unfold laneSum
  refine Finset.sum_congr rfl fun l _ => ?_
  rw [hT]
  rfl

end

end Cert.KernelIdeal.Row

end
-- ==== Proof.KernelArray.lean ====
/-
  The array the kernel leaves: every entry is the sum over the 128 lanes for its row and feature.
-/
module

public import proofs.«01_k».proof.Proof.KernelRow
public import Idealize.ShloMosaic.Lib.Claim

@[expose] public section

set_option maxRecDepth 16384

noncomputable section

open Idealize.ShloMosaic Idealize.ShloMosaic.TcCoe Idealize.SL.Sem

namespace Cert.KernelIdeal.Row

open Cert.KernelIdeal Cert.KernelIdeal.Gen Cert.KernelIdeal.Value Cert.Sample

variable (m : (ℓ : Loc nD τ sig) → Buf (Elt Ideal) ℓ) (c : Dev nD)

/-- The query of row `n` of the whole array. -/
def queryOf (n : Fin 16384) (k : Fin 256) : EReal := m ((c : Thread nD τ).loc main_arg0) (ix2 n k)

/-- The projected point of row `n`. -/
def pointOf (n : Fin 16384) (a : Fin 2) : EReal := m ((c : Thread nD τ).loc main_arg1) (ix2 n a)

/-- The coordinates of row `n`. -/
def spotsOf (n : Fin 16384) : Fin 16 → EReal :=
  spot (queryOf m c n) (pointOf m c n) (fun k j => m ((c : Thread nD τ).loc main_arg5) (ix2 k j))
    (fun y x => m ((c : Thread nD τ).loc main_arg7) (ix2 y x)) (fun x p => m ((c : Thread nD τ).loc main_arg9) (ix2 x p))
    (fun p => m ((c : Thread nD τ).loc main_arg10) (ix1 p))

/-- The scores of row `n`. -/
def scoresOf (n : Fin 16384) : Fin 8 → EReal :=
  score (queryOf m c n) (pointOf m c n) (fun k j => m ((c : Thread nD τ).loc main_arg13) (ix2 k j))
    (fun y x => m ((c : Thread nD τ).loc main_arg15) (ix2 y x)) (fun x o => m ((c : Thread nD τ).loc main_arg17) (ix2 x o))
    (fun o => m ((c : Thread nD τ).loc main_arg18) (ix1 o))

/-- What the kernel leaves at row `n` and feature `ch`. -/
def entry (n : Fin 16384) (ch : Fin 256) : EReal :=
  laneSum (share (scoresOf m c n)) (spotsOf m c n) fun y x => texel (m ((c : Thread nD τ).loc main_arg2)) y x ch

/-- The index maps of the launch: the row windows move by the point, the others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- Row `r` of the block of point `t` is row `2048 t + r` of the array. -/
def rowOf (t : Fin cfg0.N) (r : Fin 2048) : Fin 16384 := ⟨t.val * 2048 + r.val, by have := t.isLt; have : cfg0.N = 8 := rfl; omega⟩

/-- The queries of a block's row are the queries of the array's row. -/
theorem query_read (t : Fin cfg0.N) (r : Fin 2048) : query (iblk m c 0 t) r = queryOf m c (rowOf t r) := by
  funext k
  unfold query queryOf rowOf
  blk_point [iblk, V, idx t]

/-- The coordinates of a block's row are the coordinates of the array's row. -/
theorem point_read (t : Fin cfg0.N) (r : Fin 2048) : point (iblk m c 1 t) r = pointOf m c (rowOf t r) := by
  funext k
  unfold point pointOf rowOf
  blk_point [iblk, V, idx t]

/-- The offsets' first layer is read whole by every block. -/
theorem block2 (t : Fin cfg0.N) : iblk m c 2 t = m ((c : Thread nD τ).loc main_arg5) := by blk_ext! [iblk, V, idx t]
/-- The weights' first layer is read whole by every block. -/
theorem block3 (t : Fin cfg0.N) : iblk m c 3 t = m ((c : Thread nD τ).loc main_arg13) := by blk_ext! [iblk, V, idx t]
/-- The offsets' second layer is read whole by every block. -/
theorem block4 (t : Fin cfg0.N) : iblk m c 4 t = m ((c : Thread nD τ).loc main_arg7) := by blk_ext! [iblk, V, idx t]
/-- The offsets' third layer is read whole by every block. -/
theorem block5 (t : Fin cfg0.N) : iblk m c 5 t = m ((c : Thread nD τ).loc main_arg9) := by blk_ext! [iblk, V, idx t]
/-- The weights' second layer is read whole by every block. -/
theorem block7 (t : Fin cfg0.N) : iblk m c 7 t = m ((c : Thread nD τ).loc main_arg15) := by blk_ext! [iblk, V, idx t]
/-- The weights' third layer is read whole by every block. -/
theorem block8 (t : Fin cfg0.N) : iblk m c 8 t = m ((c : Thread nD τ).loc main_arg17) := by blk_ext! [iblk, V, idx t]

/-- The offsets' bias, laid out as one row. -/
theorem bias_read (t : Fin cfg0.N) (p : Fin 16) :
    (iblk m c 6 t : FVec Ideal S1x16 .f32) (ix2 0 p) = m ((c : Thread nD τ).loc main_arg10) (ix1 p) := by
  blk_point [iblk, idx t]

/-- The scores' bias, laid out as one row. -/
theorem bias_read' (t : Fin cfg0.N) (o : Fin 8) :
    (iblk m c 9 t : FVec Ideal S1x8 .f32) (ix2 0 o) = m ((c : Thread nD τ).loc main_arg18) (ix1 o) := by
  blk_point [iblk, idx t]

/-- The patch: lane `l` holds the map's line `l / 4 mod 4` and column `l mod 4`. -/
theorem patch_read (t : Fin cfg0.N) (l : Fin 128) (ch : Fin 256) :
    (iblk m c 10 t : FVec Ideal S128x256 .f32) (ix2 l ch)
      = texel (m ((c : Thread nD τ).loc main_arg2)) (l.val / 4 % 4) (l.val % 4) ch := by
  unfold texel
  blk_point [iblk, idx t]

/-- The array the kernel leaves. -/
def table : FVec Ideal S16384x256 .f32 := fun i => entry m c (i 0) (i 1)

/-- The kernel's result is that array. -/
theorem final : (dats m 0 c).arrAt 11 (cfgs 0).N = table m c := by
  refine (dats m 0 c).arrAt_eq_of_covers 11 _ (by decide +kernel) fun t _ y => ?_
  blk_simp
  rw [after0_11]; frame_out
  have hN : cfg0.N = 8 := rfl
  have ht := t.isLt
  have hr : (((View.whole main_v7).slice (win0_11.rect t)).emb y) = ix2 (rowOf t (y 0)) (y 1) := by
    unfold rowOf
    blk_ext [idx t]
  rw [hr]
  obtain ⟨r, ch, rfl⟩ : ∃ (r : Fin 2048) (ch : Fin 256), y = ix2 r ch := ⟨y 0, y 1, (ix2_eta y).symm⟩
  refine (block_at _ _ _ _ _ _ _ _ _ _ _ r ch (fun y x => texel (m ((c : Thread nD τ).loc main_arg2)) y x ch)
    fun l => patch_read m c t l ch).trans ?_
  show _ = entry m c (rowOf t r) ch
  unfold entry scores spots scoresOf spotsOf
  simp only [query_read, point_read, block2, block3, block4, block5, block7, block8, bias_read, bias_read']

end Cert.KernelIdeal.Row

end
-- ==== Proof.RefLayers.lean ====
/-
  What the reference's perceptrons compute, read at one row: the scores and weights of the eight sampling points and
  their sixteen coordinates, in the functions of `Spec.lean`.
-/
module

public import proofs.«01_k».proof.Proof.Gen.ReferenceIdeal.Run
public import proofs.«01_k».proof.Proof.Spec
public import proofs.«01_k».proof.Proof.Consts

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Value Cert.Sample

variable (V0 : Valuation τ sig (Elt Ideal))

/-- Row `n` of the reference's input: the concatenation of its two arguments. -/
def input (n : Fin 16384) (k : Fin 258) : EReal := res_main_v0 (F := Ideal) V0 (ix2 n k)

/-- The number of features the reference divides the sum of squares by: 258 less a correction of nothing. -/
theorem count : ((258 : ℝ) : EReal) - (FloatOps.sitofp (F := Ideal) .f32 0#32 : EReal)
    = ((258 : ℝ) : EReal) := by
  show ((258 : ℝ) : EReal) - (((0#32 : BitVec 32).toInt : ℝ) : EReal) = _
  rw [← EReal.coe_sub]; simp

/-- That number is positive. -/
theorem count_pos : (0 : EReal) < ((258 : ℝ) : EReal) := by exact_mod_cast (by norm_num : (0 : ℝ) < 258)

/-- The row is the query's features followed by the point's coordinates. -/
theorem input_eq (n : Fin 16384) :
    input V0 n = row (fun k => V0 (Proc.devRef .tc main_arg0) (ix2 n k)) (fun k => V0 (Proc.devRef .tc main_arg1) (ix2 n k)) := by
  funext k
  unfold input row
  pointwise [res_main_v0]

/-- The scores of the eight points, their gains being one and their shifts and biases zero. -/
theorem score_at (n : Fin 16384) (o : Fin 8)
    (hg : ∀ k : Fin 258, V0 (Proc.devRef .tc main_arg11) (ix1 k) = (1 : EReal))
    (hs : ∀ k : Fin 258, V0 (Proc.devRef .tc main_arg12) (ix1 k) = (0 : EReal))
    (h1 : ∀ k : Fin 512, V0 (Proc.devRef .tc main_arg14) (ix1 k) = (0 : EReal))
    (h2 : ∀ k : Fin 512, V0 (Proc.devRef .tc main_arg16) (ix1 k) = (0 : EReal)) :
    res_main_v72 (F := Ideal) V0 (ix2 n o)
      = dense (hidReference (input V0 n) fun k j => V0 (Proc.devRef .tc main_arg13) (ix2 k j))
          (fun y x => V0 (Proc.devRef .tc main_arg15) (ix2 y x)) (fun x => V0 (Proc.devRef .tc main_arg17) (ix2 x o))
        + V0 (Proc.devRef .tc main_arg18) (ix1 o) := by
  pointwise [res_main_v72, res_main_call1_v8, res_main_call1_v5, id_eq, hg, hs, h1, h2, count, Consts.features, mul_one, add_zero, if_pos count_pos]
  rfl

/-- The sixteen coordinates in pixels before clamping, the gains being one and the shifts and biases zero. -/
theorem place_at (n : Fin 16384) (o : Fin 8) (a : Fin 2)
    (hg : ∀ k : Fin 258, V0 (Proc.devRef .tc main_arg3) (ix1 k) = (1 : EReal))
    (hs : ∀ k : Fin 258, V0 (Proc.devRef .tc main_arg4) (ix1 k) = (0 : EReal))
    (h1 : ∀ k : Fin 512, V0 (Proc.devRef .tc main_arg6) (ix1 k) = (0 : EReal))
    (h2 : ∀ k : Fin 512, V0 (Proc.devRef .tc main_arg8) (ix1 k) = (0 : EReal)) :
    res_main_v86 (F := Ideal) V0 (ix3 n o a)
      = place (V0 (Proc.devRef .tc main_arg1) (ix2 n a))
        (dense (hidReference (input V0 n) fun k j => V0 (Proc.devRef .tc main_arg5) (ix2 k j))
          (fun y x => V0 (Proc.devRef .tc main_arg7) (ix2 y x))
          (fun x => V0 (Proc.devRef .tc main_arg9) (ix2 x ⟨o.val * 2 + a.val, by omega⟩))
        + V0 (Proc.devRef .tc main_arg10) (ix1 ⟨o.val * 2 + a.val, by omega⟩)) := by
  pointwise [res_main_v86, res_main_call0_v8, res_main_call0_v5, id_eq, hg, hs, h1, h2, count, Consts.features, Consts.two, mul_one, add_zero, if_pos count_pos]
  rfl

/-- The largest score of a row, as the reference's reduction folds it. -/
theorem peak_at (n : Fin 16384) :
    (max (Ideal.ofBits .f32 0xFF800000#32) (Finset.fold max (Ideal.ofBits .f32 0xFF800000#32)
      (res_main_v72 (F := Ideal) V0) {i | reducesTo_S16384x8_S16384_d1.drop i = ix1 n}) : EReal)
      = peak fun x => res_main_v72 (F := Ideal) V0 (ix2 n x) := by
  rw [Consts.least]
  exact (max_eq_right bot_le).trans (Shape.ReducesTo.fold_fiber_r2_a1 reducesTo_S16384x8_S16384_d1 (ix1 n) max ⊥ _)

/-- The soft maximum of a row's scores. -/
theorem soft_at (n : Fin 16384) (o : Fin 8) :
    res_main_v83 (F := Ideal) V0 (ix2 n o) = soft (fun x => res_main_v72 (F := Ideal) V0 (ix2 n x)) o := by
  pointwise [res_main_v83, res_main_v79]
  rw [peak_at]
  rfl

/-- The column of a point in pixels. -/
theorem column_at (n : Fin 16384) (o : Fin 8) :
    res_main_v117 (F := Ideal) V0 (ix2 n o) = pixel (res_main_v86 (F := Ideal) V0 (ix3 n o 0)) := by
  pointwise [res_main_v117, id_eq, Consts.two, Consts.width]
  rfl

/-- The row of a point in pixels. -/
theorem line_at (n : Fin 16384) (o : Fin 8) :
    res_main_v118 (F := Ideal) V0 (ix2 n o) = pixel (res_main_v86 (F := Ideal) V0 (ix3 n o 1)) := by
  pointwise [res_main_v118, id_eq, Consts.two, Consts.width]
  rfl

end Cert.ReferenceIdeal.Row

end
-- ==== Proof.RefSample.lean ====
/-
  What the reference's sampling computes, read at one entry of the result: with every sampled pixel's cell a whole
  number from 0 to 3, the weighted sum over the eight points of the bilinear blend of four map entries.
-/
module

public import proofs.«01_k».proof.Proof.RefLayers

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Value Cert.Sample

variable (V0 : Valuation τ sig (Elt Ideal))

/-! ## Words -/

/-- A whole number up to 3 becomes its own word. -/
theorem word_of_cell {k : ℕ} (hk : k ≤ 3) : Ideal.fptosi 32 (((k : ℝ)) : EReal) = BitVec.ofNat 32 k := by
  have e : Ideal.toIntClamped (-(2 ^ (32 - 1) : Nat)) ((2 ^ (32 - 1) : Nat) - 1) ((k : ℝ) : EReal) = (k : ℤ) := by
    show max _ (min _ (if (0 : ℝ) ≤ (k : ℝ) then ⌊(k : ℝ)⌋ else ⌈(k : ℝ)⌉)) = _
    rw [if_pos (Nat.cast_nonneg k), Int.floor_natCast]
    push_cast
    omega
  unfold Ideal.fptosi
  rw [e, BitVec.ofInt_natCast]

/-- The next pixel's word: the map's last pixel does not bound it. -/
theorem word_next {k : ℕ} (hk : k ≤ 3) :
    IntOp.minsi (IntOp.addi (BitVec.ofNat 32 k) 1#32) 127#32 = BitVec.ofNat 32 (k + 1) := by
  interval_cases k <;> decide

/-- The word of the entry in line `y` and column `x`. -/
theorem word_flat (y x : ℕ) :
    IntOp.addi (IntOp.muli (BitVec.ofNat 32 y) 128#32) (BitVec.ofNat 32 x) = BitVec.ofNat 32 (y * 128 + x) := by
  show BitVec.ofNat 32 y * BitVec.ofNat 32 128 + BitVec.ofNat 32 x = _
  rw [← BitVec.ofNat_mul, ← BitVec.ofNat_add]

/-- Such a word is not negative, so it is not moved. -/
theorem word_kept {y x : ℕ} (hy : y ≤ 4) (hx : x ≤ 4) :
    Scalar.select (IntOp.cmpi .slt (BitVec.ofNat 32 (y * 128 + x)) 0#32)
      (IntOp.addi (BitVec.ofNat 32 (y * 128 + x)) 16384#32) (BitVec.ofNat 32 (y * 128 + x)) = BitVec.ofNat 32 (y * 128 + x) := by
  interval_cases y <;> interval_cases x <;> decide

/-- Such a word names an entry of the map. -/
theorem word_inside {y x : ℕ} (hy : y ≤ 4) (hx : x ≤ 4) :
    IntOp.andi (IntOp.cmpi .sge (BitVec.ofNat 32 (y * 128 + x)) 0#32)
      (IntOp.cmpi .sle (BitVec.ofNat 32 (y * 128 + x)) 16383#32) = 1#1 := by
  interval_cases y <;> interval_cases x <;> decide

/-- Such a word read as a signed number is the entry's place. -/
theorem word_value {y x : ℕ} (hy : y ≤ 4) (hx : x ≤ 4) :
    min (BitVec.ofNat 32 (y * 128 + x)).toInt.toNat (16384 - 1) = y * 128 + x := by
  interval_cases y <;> interval_cases x <;> decide

/-- A conjunction of bits that are all one is one. -/
theorem fold_andi_one {ι : Type} (s : Finset ι) (f : ι → BitVec 1) (h : ∀ i, f i = 1#1) :
    s.fold IntOp.andi 1#1 f = 1#1 := by
  classical
  induction s using Finset.induction_on with
  | empty => rfl
  | insert a s ha ih => rw [Finset.fold_insert ha, ih, h]; rfl

/-! ## One fetched entry -/

/-- The dimension numbers of a fetch of whole rows: one row of `[N, C]` for each entry of an `[R, P]` array of row
    numbers. -/
abbrev rowFetch (N C R P : ℕ)
    (wf : GatherDims.WF ⟨2, ![N, C]⟩ ⟨3, ![R, P, 1]⟩ ⟨3, ![R, P, C]⟩ [2] [0] [] [0] [] 2 ![1, C]) :
    GatherDims ⟨2, ![N, C]⟩ ⟨3, ![R, P, 1]⟩ ⟨3, ![R, P, C]⟩ where
  offsetDims := [2]
  collapsedSliceDims := [0]
  operandBatchingDims := []
  startIndicesBatchingDims := []
  startIndexMap := [0]
  indexVectorDim := 2
  sliceSizes := ![1, C]
  wf := wf

/-- Such a fetch read at an index: the row the number names, read signed and bounded by the last row. -/
theorem rowFetch_at {α : Type} {N C R P w : ℕ} (hN : 0 < N)
    (wf : GatherDims.WF ⟨2, ![N, C]⟩ ⟨3, ![R, P, 1]⟩ ⟨3, ![R, P, C]⟩ [2] [0] [] [0] [] 2 ![1, C])
    (x : (⟨2, ![N, C]⟩ : Shape).Idx → α) (idx : IVec ⟨3, ![R, P, 1]⟩ w) (n : Fin R) (o : Fin P) (ch : Fin C) :
    Host.gather (rowFetch N C R P wf) x idx (ix3 n o ch)
      = x (ix2 ⟨min (idx (ix3 n o 0)).toInt.toNat (N - 1), by omega⟩ ch) := by
  unfold Host.gather
  congr 1
  funext a
  refine Fin.ext ?_
  show (rowFetch N C R P wf).start (ix3 n o ch) idx a + (rowFetch N C R P wf).batchCoord (ix3 n o ch) a
    + (rowFetch N C R P wf).offCoord (ix3 n o ch) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowFetch N C R P wf).startIndexMap from List.mem_singleton.mpr rfl)]
    refine congrArg (fun v : BitVec w => min v.toInt.toNat (N - 1)) (congrArg idx ?_)
    funext b
    refine Fin.ext ?_
    match b with
    | ⟨0, _⟩ => rfl
    | ⟨1, _⟩ => rfl
    | ⟨2, _⟩ => rfl
  · unfold GatherDims.start
    rw [dif_neg (show ¬ (1 : Fin 2) ∈ (rowFetch N C R P wf).startIndexMap from fun h => absurd (congrArg Fin.val (List.mem_singleton.mp h)) Nat.one_ne_zero)]
    unfold GatherDims.offCoord
    rw [dif_pos ((GatherDims.mem_sKept _ _).mpr ⟨fun h => absurd (congrArg Fin.val (List.mem_singleton.mp h)) Nat.one_ne_zero, List.not_mem_nil⟩)]
    simp only [Nat.zero_add]
    rfl

/-- The map's rows laid end to end hold the entry of line `y` and column `x` at place `128 y + x`. -/
theorem rows_at {y x : ℕ} (hy : y ≤ 4) (hx : x ≤ 4) (h : y * 128 + x < 16384) (ch : Fin 256) :
    res_main_v133 (F := Ideal) V0 (ix2 ⟨y * 128 + x, h⟩ ch) = texel (V0 (Proc.devRef .tc main_arg2)) y x ch := by
  pointwise [res_main_v133]
  unfold texel
  exact congrArg _ ((ix3_inj ..).2 ⟨Fin.ext (by show (y * 128 + x) / 128 = y % 128; omega),
    Fin.ext (by show (y * 128 + x) % 128 = x % 128; omega), rfl⟩)

/-- The guarded fetch of one corner, its index words all the words of cells near the map's origin. -/
theorem corner_at (w : IVec S16384x8x1 32) (Y X : Fin 16384 → Fin 8 → ℕ) (hY : ∀ n o, Y n o ≤ 4) (hX : ∀ n o, X n o ≤ 4)
    (hw : ∀ n o, w (ix3 n o 0) = BitVec.ofNat 32 (Y n o * 128 + X n o)) (n : Fin 16384) (o : Fin 8) (ch : Fin 256) (z : EReal) :
    Scalar.select
      (Finset.fold IntOp.andi (1#1)
        (fun i => IntOp.andi (IntOp.cmpi .sge (w i) 0#32) (IntOp.cmpi .sle (w i) 16383#32))
        {i | reducesTo_S16384x8x1_S16384x8_d2.drop i = ix2 n o})
      (Host.gather gather_S16384x256_S16384x8x1_S16384x8x256_2_0_n_n_0_2_1256 (res_main_v133 (F := Ideal) V0) w (ix3 n o ch)) z
      = texel (V0 (Proc.devRef .tc main_arg2)) (Y n o) (X n o) ch := by
  rw [fold_andi_one]
  · show Host.gather gather_S16384x256_S16384x8x1_S16384x8x256_2_0_n_n_0_2_1256 (res_main_v133 (F := Ideal) V0) w (ix3 n o ch) = _
    rw [← rows_at V0 (hY n o) (hX n o) (by have := hY n o; have := hX n o; omega)]
    refine (rowFetch_at (by norm_num) _ _ w n o ch).trans ?_
    exact congrArg _ ((ix2_inj ..).2 ⟨Fin.ext ((congrArg (fun v : BitVec 32 => min v.toInt.toNat (16384 - 1)) (hw n o)).trans
      (word_value (hY n o) (hX n o))), rfl⟩)
  · intro i
    idx_vars i
    have e : i2 = 0 := Subsingleton.elim _ _
    subst e
    rw [hw]
    exact word_inside (hY _ _) (hX _ _)

/-- A point's distance beyond its lower column. -/
theorem frac_column (n : Fin 16384) (o : Fin 8) :
    res_main_v121 (F := Ideal) V0 (ix2 n o) = frac (res_main_v86 (F := Ideal) V0 (ix3 n o 0)) := by
  pointwise [res_main_v121, res_main_v119, column_at]
  rfl

/-- A point's distance beyond its lower line. -/
theorem frac_line (n : Fin 16384) (o : Fin 8) :
    res_main_v122 (F := Ideal) V0 (ix2 n o) = frac (res_main_v86 (F := Ideal) V0 (ix3 n o 1)) := by
  pointwise [res_main_v122, res_main_v120, line_at]
  rfl

/-! ## The result -/

section
variable (Y X : Fin 16384 → Fin 8 → ℕ) (hY : ∀ n o, Y n o ≤ 3) (hX : ∀ n o, X n o ≤ 3)
  (cY : ∀ n o, cell (res_main_v86 (F := Ideal) V0 (ix3 n o 1)) = ((Y n o : ℝ) : EReal))
  (cX : ∀ n o, cell (res_main_v86 (F := Ideal) V0 (ix3 n o 0)) = ((X n o : ℝ) : EReal))

include cX in
/-- The lower column as the reference rounds it. -/
theorem floor_column_at (n : Fin 16384) (o : Fin 8) : res_main_v119 (F := Ideal) V0 (ix2 n o) = ((X n o : ℝ) : EReal) := by
  pointwise [res_main_v119]
  rw [column_at]
  exact cX n o

include cY in
/-- The lower line as the reference rounds it. -/
theorem floor_line_at (n : Fin 16384) (o : Fin 8) : res_main_v120 (F := Ideal) V0 (ix2 n o) = ((Y n o : ℝ) : EReal) := by
  pointwise [res_main_v120]
  rw [line_at]
  exact cY n o

include hX cX in
/-- The lower column's word. -/
theorem word_column (n : Fin 16384) (o : Fin 8) : res_main_v123 (F := Ideal) V0 (ix2 n o) = BitVec.ofNat 32 (X n o) := by
  unfold res_main_v123
  show Ideal.fptosi 32 (res_main_v119 (F := Ideal) V0 (ix2 n o)) = _
  rw [floor_column_at V0 X cX, word_of_cell (hX n o)]

include hY cY in
/-- The lower line's word. -/
theorem word_line (n : Fin 16384) (o : Fin 8) : res_main_v124 (F := Ideal) V0 (ix2 n o) = BitVec.ofNat 32 (Y n o) := by
  unfold res_main_v124
  show Ideal.fptosi 32 (res_main_v120 (F := Ideal) V0 (ix2 n o)) = _
  rw [floor_line_at V0 Y cY, word_of_cell (hY n o)]

include hY hX cY cX in
/-- The index words of the four corners. -/
theorem words_at (n : Fin 16384) (o : Fin 8) :
    res_main_call6_v5 (F := Ideal) V0 (ix3 n o 0) = BitVec.ofNat 32 (Y n o * 128 + X n o)
    ∧ res_main_call7_v5 (F := Ideal) V0 (ix3 n o 0) = BitVec.ofNat 32 (Y n o * 128 + (X n o + 1))
    ∧ res_main_call8_v5 (F := Ideal) V0 (ix3 n o 0) = BitVec.ofNat 32 ((Y n o + 1) * 128 + X n o)
    ∧ res_main_call9_v5 (F := Ideal) V0 (ix3 n o 0) = BitVec.ofNat 32 ((Y n o + 1) * 128 + (X n o + 1)) := by
  have hx := word_column V0 X hX cX n o
  have hy := word_line V0 Y hY cY n o
  have bx := hX n o
  have bx' : X n o ≤ 4 := by omega
  have bx1 : X n o + 1 ≤ 4 := by omega
  have by0 := hY n o
  have by' : Y n o ≤ 4 := by omega
  have by1 : Y n o + 1 ≤ 4 := by omega
  refine ⟨?_, ?_, ?_, ?_⟩
  · pointwise [res_main_call6_v5, res_main_v136]
    rw [hx, hy, word_flat, word_kept by' bx']
  · pointwise [res_main_call7_v5, res_main_v140, res_main_v128]
    rw [hx, hy, word_next bx, word_flat, word_kept by' bx1]
  · pointwise [res_main_call8_v5, res_main_v144, res_main_v132]
    rw [hx, hy, word_next by0, word_flat, word_kept by1 bx']
  · pointwise [res_main_call9_v5, res_main_v148, res_main_v128, res_main_v132]
    rw [hx, hy, word_next bx, word_next by0, word_flat, word_kept by1 bx1]

include hY hX cY cX in
/-- One entry of the reference's result. -/
theorem result_at (n : Fin 16384) (ch : Fin 256) :
    (show FVec Ideal S16384x256 .f32 from Host.reduceAdd (res_main_v185 (F := Ideal) V0) (constant S_ .f32 0x00000000#32)
        reducesTo_S16384x8x256_S16384x256_d1 h_S_) (ix2 n ch)
      = ∑ o, share (fun x => res_main_v72 (F := Ideal) V0 (ix2 n x)) o
          * blend (frac (res_main_v86 (F := Ideal) V0 (ix3 n o 0))) (frac (res_main_v86 (F := Ideal) V0 (ix3 n o 1)))
            (texel (V0 (Proc.devRef .tc main_arg2)) (Y n o) (X n o) ch)
            (texel (V0 (Proc.devRef .tc main_arg2)) (Y n o) (X n o + 1) ch)
            (texel (V0 (Proc.devRef .tc main_arg2)) (Y n o + 1) (X n o) ch)
            (texel (V0 (Proc.devRef .tc main_arg2)) (Y n o + 1) (X n o + 1) ch) := by
  have b3 : ∀ {k : ℕ}, k ≤ 3 → k ≤ 4 := fun h => by omega
  have b4 : ∀ {k : ℕ}, k ≤ 3 → k + 1 ≤ 4 := fun h => by omega
  pointwise [res_main_v185]
  refine Finset.sum_congr rfl fun o _ => ?_
  have ew := words_at V0 Y X hY hX cY cX
  have e1 := fun z => corner_at V0 _ Y X (fun n o => b3 (hY n o)) (fun n o => b3 (hX n o)) (fun n o => (ew n o).1) n o ch z
  have e2 := fun z => corner_at V0 _ Y (fun n o => X n o + 1) (fun n o => b3 (hY n o)) (fun n o => b4 (hX n o))
    (fun n o => (ew n o).2.1) n o ch z
  have e3 := fun z => corner_at V0 _ (fun n o => Y n o + 1) X (fun n o => b4 (hY n o)) (fun n o => b3 (hX n o))
    (fun n o => (ew n o).2.2.1) n o ch z
  have e4 := fun z => corner_at V0 _ (fun n o => Y n o + 1) (fun n o => X n o + 1) (fun n o => b4 (hY n o)) (fun n o => b4 (hX n o))
    (fun n o => (ew n o).2.2.2) n o ch z
  rw [frac_column, frac_line]
  unfold blend
  refine Ideal.mul_congr ?_ (Ideal.add_congr (Ideal.add_congr (Ideal.add_congr
    (Ideal.mul_congr rfl (e1 _)) (Ideal.mul_congr rfl (e2 _))) (Ideal.mul_congr rfl (e3 _))) (Ideal.mul_congr rfl (e4 _)))
  simp only [soft_at]
  rfl

end

end Cert.ReferenceIdeal.Row

end
-- ==== Proof.Reals.lean ====
/-
  Sums, products and maxima of extended reals that the comparison of the two programs rests on.
-/
module

public import proofs.«01_k».proof.Proof.Spec

@[expose] public section

noncomputable section

namespace Cert.Reals

/-- A finite sum of reals, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, taken in the extended reals. -/
theorem max_coe (a b : ℝ) : max (a : EReal) (b : EReal) = ((max a b : ℝ) : EReal) :=
  (EReal.coe_strictMono.monotone.map_max).symm

/-- The smaller of two reals, taken in the extended reals. -/
theorem min_coe (a b : ℝ) : min (a : EReal) (b : EReal) = ((min a b : ℝ) : EReal) :=
  (EReal.coe_strictMono.monotone.map_min).symm

/-- A nonnegative real distributes over a finite sum of any extended reals. -/
theorem mul_sum_any {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A positive real moves out of a rectifier. -/
theorem mul_relu {c : ℝ} (hc : 0 < c) (y : EReal) : max ((c : EReal) * y) 0 = (c : EReal) * max y 0 := by
  have h : Monotone fun y : EReal => (c : EReal) * y := fun a b hab =>
    mul_le_mul_of_nonneg_left hab (by exact_mod_cast hc.le)
  have e := h.map_max (a := y) (b := 0)
  simp only [mul_zero] at e
  exact e.symm

/-- A positive real factor of the hidden layer is a factor of the perceptron's output: its last two layers have a
    rectifier between them and no bias. -/
theorem dense_scale {c : ℝ} (hc : 0 < c) (h : Fin 512 → EReal) (W2 : Fin 512 → Fin 512 → EReal) (W3 : Fin 512 → EReal) :
    Sample.dense (fun j => (c : EReal) * h j) W2 W3 = (c : EReal) * Sample.dense h W2 W3 := by
  unfold Sample.dense
  rw [mul_sum_any _ hc.le]
  refine Finset.sum_congr rfl fun x _ => ?_
  rw [← mul_assoc, ← mul_relu hc, mul_sum_any _ hc.le]
  simp only [mul_assoc]

/-- The last two layers of a perceptron take reals to a real when their matrices are real. -/
theorem dense_real (h : Fin 512 → ℝ) (W2 : Fin 512 → Fin 512 → ℝ) (W3 : Fin 512 → ℝ) :
    ∃ r : ℝ, Sample.dense (fun j => (h j : EReal)) (fun y x => (W2 y x : EReal)) (fun x => (W3 x : EReal)) = (r : EReal) := by
  unfold Sample.dense
  refine ⟨∑ x, max (∑ y, h y * W2 y x) 0 * W3 x, ?_⟩
  simp only [← EReal.coe_mul, sum_coe, ← EReal.coe_zero, max_coe]

/-- The sum of 258 terms is that of the first 256 and that of the last two. -/
theorem sum_row {M : Type*} [AddCommMonoid M] (f : Fin 258 → M) :
    ∑ k, f k = ∑ x : Fin 256, f ⟨x.val, by omega⟩ + ∑ x : Fin 2, f ⟨256 + x.val, by omega⟩ :=
  Fin.sum_univ_add (a := 256) (b := 2) f

end Cert.Reals

end
-- ==== Proof.Normalise.lean ====
/-
  The kernel's first layer against the reference's. The kernel multiplies the raw row by the matrix and takes the mean
  out afterwards, and leaves the division by the standard deviation to the end; the reference normalises the row first.
-/
module

public import proofs.«01_k».proof.Proof.Reals
public import proofs.«01_k».proof.Proof.Consts

@[expose] public section

noncomputable section

namespace Cert.Sample

open Idealize.ShloMosaic Cert.Reals

/-- The mean of the squares less the square of the mean is the mean of the squared deviations, for 258 reals. -/
theorem variance (x : Fin 258 → ℝ) :
    (∑ k, x k * x k) * (1 / 258) - (∑ k, x k) * (1 / 258) * ((∑ k, x k) * (1 / 258))
      = (∑ k, (x k - (∑ k, x k) * (1 / 258)) * (x k - (∑ k, x k) * (1 / 258))) * (1 / 258) := by
  generalize hm : (∑ k, x k) * (1 / 258) = m
  have hs : ∑ k, x k = 258 * m := by rw [← hm]; ring
  have e : ∀ k, (x k - m) * (x k - m) = x k * x k - 2 * m * x k + m * m := fun k => by ring
  simp only [e, Finset.sum_add_distrib, Finset.sum_sub_distrib, ← Finset.mul_sum, hs, Finset.sum_const, Finset.card_univ,
    Fintype.card_fin, nsmul_eq_mul]
  push_cast
  ring

/-- The features of a row of reals. -/
def rowReal (a : Fin 256 → ℝ) (b : Fin 2 → ℝ) (k : Fin 258) : ℝ :=
  if h : k.val < 256 then a ⟨k.val, h⟩ else b ⟨k.val - 256, by omega⟩

/-- The joined row of real numbers is real. -/
theorem row_coe (a : Fin 256 → ℝ) (b : Fin 2 → ℝ) :
    row (fun x => (a x : EReal)) (fun x => (b x : EReal)) = fun k => ((rowReal a b k : ℝ) : EReal) := by
  funext k
  unfold row rowReal
  split <;> rfl

/-- The sum of a function over a row's features, in the order the kernel adds them. -/
theorem sum_rowReal (a : Fin 256 → ℝ) (b : Fin 2 → ℝ) (f : ℝ → ℝ) :
    ∑ k, f (rowReal a b k) = ∑ x, f (a x) + f (b 0) + f (b 1) := by
  rw [sum_row, Fin.sum_univ_two, ← add_assoc]
  have h : ∀ x : Fin 256, rowReal a b ⟨x.val, by omega⟩ = a x := fun x => by simp [rowReal]
  simp only [h]
  rfl

/-- The same with a weight for each feature. -/
theorem sum_rowReal_mul (a : Fin 256 → ℝ) (b : Fin 2 → ℝ) (w : Fin 258 → ℝ) :
    ∑ k, rowReal a b k * w k
      = ∑ x : Fin 256, a x * w ⟨x.val, by omega⟩ + ∑ x : Fin 2, b x * w ⟨256 + x.val, by omega⟩ := by
  rw [sum_row]
  have h : ∀ x : Fin 256, rowReal a b ⟨x.val, by omega⟩ = a x := fun x => by simp [rowReal]
  have h' : ∀ x : Fin 2, rowReal a b ⟨256 + x.val, by omega⟩ = b x := fun x => by simp [rowReal]
  simp only [h, h']

section
variable (a : Fin 256 → ℝ) (b : Fin 2 → ℝ)

/-- The mean of a row of reals. -/
def mean : ℝ := (∑ k, rowReal a b k) * (1 / 258)

/-- The mean of the squared deviations of a row of reals. -/
def spread : ℝ := (∑ k, (rowReal a b k - mean a b) * (rowReal a b k - mean a b)) * (1 / 258)

/-- The mean squared deviation is not negative. -/
theorem spread_nonneg : 0 ≤ spread a b :=
  mul_nonneg (Finset.sum_nonneg fun k _ => mul_self_nonneg _) (by norm_num)

/-- The kernel's mean, read off the two sums, is the real mean of the row. -/
theorem meanKernel_coe : meanKernel (fun x => (a x : EReal)) (fun x => (b x : EReal)) = ((mean a b : ℝ) : EReal) := by
  unfold meanKernel mean
  have e := sum_rowReal a b id
  simp only [id_eq] at e
  rw [e, sum_coe]
  simp only [← EReal.coe_add, ← EReal.coe_mul]

/-- The reference's mean, a sum divided by the length, is the real mean of the row. -/
theorem meanReference_coe : meanReference (fun k => ((rowReal a b k : ℝ) : EReal)) = ((mean a b : ℝ) : EReal) := by
  unfold meanReference mean
  rw [Ideal.div_coe (by norm_num), sum_coe, ← EReal.coe_mul]

/-- The kernel's reciprocal of the standard deviation, on a row of reals. -/
theorem invKernel_coe {e : ℝ} (he : 0 < e) (h : Ideal.ofBits .f32 0x3727C5AC#32 = (e : EReal)) :
    invKernel (fun x => (a x : EReal)) (fun x => (b x : EReal)) = (((Real.sqrt (spread a b + e))⁻¹ : ℝ) : EReal) := by
  have hv := spread_nonneg a b
  have e2 : (∑ x, a x * a x + b 0 * b 0 + b 1 * b 1) * (1 / 258) - mean a b * mean a b = spread a b := by
    rw [← sum_rowReal a b fun v => v * v]
    exact variance (rowReal a b)
  unfold invKernel
  rw [meanKernel_coe, h]
  simp only [← EReal.coe_mul]
  rw [sum_coe]
  simp only [← EReal.coe_mul, ← EReal.coe_add, ← EReal.coe_sub]
  rw [e2, Ideal.rsqrt_coe, if_neg (by linarith), if_neg (by linarith)]

/-- The reference's standard deviation, on a row of reals. -/
theorem devReference_coe {e : ℝ} (he : 0 < e) (h : Ideal.ofBits .f32 0x3727C5AC#32 = (e : EReal)) :
    devReference (fun k => ((rowReal a b k : ℝ) : EReal)) = ((Real.sqrt (spread a b + e) : ℝ) : EReal) := by
  have hv := spread_nonneg a b
  unfold devReference
  rw [meanReference_coe, h, Ideal.div_coe (by norm_num)]
  simp only [← EReal.coe_sub, ← EReal.coe_mul]
  rw [sum_coe, ← EReal.coe_mul, ← EReal.coe_add]
  show Ideal.sqrt ((spread a b + e : ℝ) : EReal) = _
  rw [Ideal.sqrt_coe, if_neg (by linarith)]

/-- On reals, the reference's hidden layer is the kernel's times the kernel's reciprocal, a positive real. -/
theorem hidden (W : Fin 258 → Fin 512 → ℝ) : ∃ c : ℝ, 0 < c
    ∧ invKernel (fun x => (a x : EReal)) (fun x => (b x : EReal)) = (c : EReal)
    ∧ ∀ j, ∃ r : ℝ, hidKernel (fun x => (a x : EReal)) (fun x => (b x : EReal)) (fun k j => (W k j : EReal)) j = (r : EReal)
      ∧ hidReference (fun k => ((rowReal a b k : ℝ) : EReal)) (fun k j => (W k j : EReal)) j = ((c * r : ℝ) : EReal) := by
  obtain ⟨e, he, h⟩ := Consts.eps
  have hd : 0 < Real.sqrt (spread a b + e) := Real.sqrt_pos.mpr (by have := spread_nonneg a b; linarith)
  refine ⟨_, inv_pos.mpr hd, invKernel_coe a b he h, fun j => ⟨max (∑ k, rowReal a b k * W k j - mean a b * ∑ k, W k j) 0, ?_, ?_⟩⟩
  · unfold hidKernel
    rw [meanKernel_coe, sum_rowReal_mul]
    simp only [← EReal.coe_mul, sum_coe, ← EReal.coe_add, ← EReal.coe_sub, ← EReal.coe_zero, max_coe]
  · unfold hidReference
    rw [meanReference_coe, devReference_coe a b he h]
    simp only [Ideal.div_coe hd.ne', ← EReal.coe_mul, sum_coe, ← EReal.coe_sub, ← EReal.coe_zero, max_coe]
    refine congrArg _ ?_
    rw [← mul_zero ((Real.sqrt (spread a b + e))⁻¹), mul_zero, mul_max_of_nonneg _ _ (inv_pos.mpr hd).le, mul_zero]
    congr 1
    rw [Finset.mul_sum, ← Finset.sum_sub_distrib, Finset.mul_sum]
    refine Finset.sum_congr rfl fun k _ => ?_
    rw [one_div]
    ring

end

/-- One output of a perceptron: the kernel computes what the reference computes, whatever the last two matrices and
    the bias hold, when the row and the first matrix are real. -/
theorem raw_eq (q : Fin 256 → EReal) (p : Fin 2 → EReal) (W : Fin 258 → Fin 512 → EReal) (W2 : Fin 512 → Fin 512 → EReal)
    (W3 : Fin 512 → EReal) (t : EReal) (hq : ∀ x, ∃ r : ℝ, q x = (r : EReal)) (hp : ∀ x, ∃ r : ℝ, p x = (r : EReal))
    (hW : ∀ k j, ∃ r : ℝ, W k j = (r : EReal)) :
    rawKernel q p W W2 W3 t = dense (hidReference (row q p) W) W2 W3 + t := by
  choose a ha using hq
  choose b hb using hp
  choose w hw using hW
  obtain rfl : q = fun x => (a x : EReal) := funext ha
  obtain rfl : p = fun x => (b x : EReal) := funext hb
  obtain rfl : W = fun k j => (w k j : EReal) := funext fun k => funext (hw k)
  obtain ⟨c, hc, ec, H⟩ := hidden a b w
  unfold rawKernel
  rw [ec, ← dense_scale hc, row_coe]
  congr 2
  funext j
  obtain ⟨r, e1, e2⟩ := H j
  rw [e1, e2, EReal.coe_mul]

/-- Such an output is real when the last two matrices and the bias are. -/
theorem raw_real (q : Fin 256 → EReal) (p : Fin 2 → EReal) (W : Fin 258 → Fin 512 → EReal) (W2 : Fin 512 → Fin 512 → EReal)
    (W3 : Fin 512 → EReal) (t : EReal) (hq : ∀ x, ∃ r : ℝ, q x = (r : EReal)) (hp : ∀ x, ∃ r : ℝ, p x = (r : EReal))
    (hW : ∀ k j, ∃ r : ℝ, W k j = (r : EReal)) (hW2 : ∀ k j, ∃ r : ℝ, W2 k j = (r : EReal))
    (hW3 : ∀ j, ∃ r : ℝ, W3 j = (r : EReal)) (ht : ∃ r : ℝ, t = (r : EReal)) :
    ∃ r : ℝ, rawKernel q p W W2 W3 t = (r : EReal) := by
  choose a ha using hq
  choose b hb using hp
  choose w hw using hW
  choose w2 hw2 using hW2
  choose w3 hw3 using hW3
  obtain rfl : q = fun x => (a x : EReal) := funext ha
  obtain rfl : p = fun x => (b x : EReal) := funext hb
  obtain rfl : W = fun k j => (w k j : EReal) := funext fun k => funext (hw k)
  obtain rfl : W2 = fun k j => (w2 k j : EReal) := funext fun k => funext (hw2 k)
  obtain rfl : W3 = fun k => (w3 k : EReal) := funext hw3
  obtain ⟨c, hc, ec, H⟩ := hidden a b w
  obtain ⟨u, rfl⟩ := ht
  choose h eh _ using H
  obtain ⟨d, ed⟩ := dense_real h w2 w3
  refine ⟨c * d + u, ?_⟩
  unfold rawKernel
  rw [ec, show hidKernel (fun x => (a x : EReal)) (fun x => (b x : EReal)) (fun k j => (w k j : EReal)) = fun j => (h j : EReal) from
    funext eh, ed, ← EReal.coe_mul, ← EReal.coe_add]

end Cert.Sample

end
-- ==== Proof.Weights.lean ====
/-
  The eight weights of real scores are nonnegative reals.
-/
module

public import proofs.«01_k».proof.Proof.Reals
public import proofs.«01_k».proof.Proof.Consts

@[expose] public section

noncomputable section

namespace Cert.Sample

open Idealize.ShloMosaic Cert.Reals

/-- The largest of eight reals is a real. -/
theorem peak_coe (r : Fin 8 → ℝ) : ∃ m : ℝ, peak (fun x => (r x : EReal)) = (m : EReal) := by
  have h : ∀ s : Finset (Fin 8), s.Nonempty → ∃ m : ℝ, s.fold max ⊥ (fun x => (r x : EReal)) = (m : EReal) := by
    intro s hs
    induction hs using Finset.Nonempty.cons_induction with
    | singleton a => exact ⟨r a, by simp⟩
    | cons a s ha hs ih =>
      obtain ⟨m, hm⟩ := ih
      exact ⟨max (r a) m, by rw [Finset.fold_cons, hm, max_coe]⟩
  exact h _ Finset.univ_nonempty

/-- The exponentials of real scores are positive reals. -/
theorem expScore_coe (r : Fin 8 → ℝ) : ∃ e : Fin 8 → ℝ, (∀ x, 0 < e x) ∧ ∀ x, expScore (fun y => (r y : EReal)) x = (e x : EReal) := by
  obtain ⟨m, hm⟩ := peak_coe r
  refine ⟨fun x => Real.exp (r x - m), fun x => Real.exp_pos _, fun x => ?_⟩
  unfold expScore
  rw [hm, ← EReal.coe_sub, Ideal.exp_coe]

/-- The weights of real scores are nonnegative reals. -/
theorem share_coe (r : Fin 8 → EReal) (hr : ∀ x, ∃ v : ℝ, r x = (v : EReal)) (x : Fin 8) :
    ∃ w : ℝ, 0 ≤ w ∧ share r x = (w : EReal) := by
  choose v hv using hr
  obtain rfl : r = fun x => (v x : EReal) := funext hv
  obtain ⟨e, he, h⟩ := expScore_coe v
  obtain ⟨t, ht, hte⟩ := Consts.tiny
  have hs : 0 < ∑ y, e y := Finset.sum_pos (fun y _ => he y) Finset.univ_nonempty
  have hsoft : ∀ y, soft (fun x => (v x : EReal)) y = ((e y * (1 / ∑ y, e y) : ℝ) : EReal) := fun y => by
    unfold soft
    simp only [h, sum_coe]
    rw [Ideal.div_coe hs.ne', ← EReal.coe_mul]
  have hm : 0 < max (∑ y, e y * (1 / ∑ y, e y)) t := lt_max_of_lt_right ht
  refine ⟨e x * (1 / ∑ y, e y) * (1 / max (∑ y, e y * (1 / ∑ y, e y)) t), ?_, ?_⟩
  · exact mul_nonneg (mul_nonneg (he x).le (one_div_pos.mpr hs).le) (one_div_pos.mpr hm).le
  · unfold share
    simp only [hsoft, sum_coe]
    rw [hte, max_coe, Ideal.div_coe hm.ne', ← EReal.coe_mul]

end Cert.Sample

end
-- ==== Proof.Pixels.lean ====
/-
  The sampled pixels. A projected point inside the unit square, moved by at most two pixels, is sampled at a coordinate
  from 0 to 3: the lower pixel is one of four and the distance beyond it is a real from 0 to 1, and none at the last.
-/
module

public import proofs.«01_k».proof.Proof.Reals
public import proofs.«01_k».proof.Proof.Consts

@[expose] public section

noncomputable section

namespace Cert.Sample

open Idealize.ShloMosaic Cert.Reals

/-- A hyperbolic tangent is a real from -1 to 1, of any extended real. -/
theorem tanh_coe (o : EReal) : ∃ t : ℝ, -1 ≤ t ∧ t ≤ 1 ∧ Ideal.tanh o = (t : EReal) := by
  induction o with
  | bot => exact ⟨-1, by norm_num, by norm_num, rfl⟩
  | top => exact ⟨1, by norm_num, by norm_num, rfl⟩
  | coe r =>
    refine ⟨Real.tanh r, (Real.neg_one_lt_tanh r).le, (Real.tanh_lt_one r).le, ?_⟩
    rfl

/-- A point of the unit square moved by any offset lies from -2 to 3. -/
theorem place_coe {p : EReal} (h0 : 0 ≤ p) (h1 : p ≤ 1) (o : EReal) :
    ∃ c : ℝ, -2 ≤ c ∧ c ≤ 3 ∧ place p o = (c : EReal) := by
  obtain ⟨t, ht0, ht1, ht⟩ := tanh_coe o
  lift p to ℝ using ⟨fun h => by rw [h] at h1; exact absurd h1 (by decide), fun h => by rw [h] at h0; exact absurd h0 (by decide)⟩
  have h0' : 0 ≤ p := by exact_mod_cast h0
  have h1' : p ≤ 1 := by exact_mod_cast h1
  refine ⟨p + t * 2, by linarith, by linarith, ?_⟩
  unfold place
  rw [ht, ← EReal.coe_mul, ← EReal.coe_add]

/-- Such a coordinate is sampled where it lies, or at 0 when it is negative: the clamps to the map do nothing else. -/
theorem pixel_coe {c : ℝ} (h0 : -2 ≤ c) (h1 : c ≤ 3) : pixel (c : EReal) = ((max 0 c : ℝ) : EReal) := by
  unfold pixel
  rw [Consts.clampHigh, Consts.clampLow, Consts.half, Ideal.div_coe (by norm_num)]
  simp only [← EReal.coe_mul, ← EReal.coe_one, ← EReal.coe_sub, ← EReal.coe_add, ← EReal.coe_zero, max_coe, min_coe]
  refine congrArg _ ?_
  rw [max_eq_right (a := (-(9227469 / 8388608) : ℝ)) (by linarith),
    min_eq_right (a := (9227469 / 8388608 : ℝ)) (by linarith),
    show (2 * c * (1 / 127) - 1 + 1) * (1 / 2) * 127 = c by ring]
  exact min_eq_right (max_le (by norm_num) (by linarith))

/-- The pixel below the sampled coordinate and the distance beyond it. -/
theorem pixel_facts {c : ℝ} (h0 : -2 ≤ c) (h1 : c ≤ 3) : ∃ (X : ℕ) (w : ℝ), X ≤ 3 ∧ 0 ≤ w ∧ w ≤ 1 ∧ (X = 3 → w = 0)
    ∧ cell (c : EReal) = ((X : ℝ) : EReal) ∧ frac (c : EReal) = (w : EReal) := by
  have e := pixel_coe h0 h1
  have hm0 : 0 ≤ max 0 c := le_max_left _ _
  have hm3 : max 0 c ≤ 3 := max_le (by norm_num) h1
  have ec : cell (c : EReal) = (((⌊max 0 c⌋₊ : ℕ) : ℝ) : EReal) := by
    unfold cell
    rw [e]
    show (((⌊max 0 c⌋ : ℤ) : ℝ) : EReal) = _
    rw [natCast_floor_eq_intCast_floor hm0]
  have hfl : ((⌊max 0 c⌋₊ : ℕ) : ℝ) ≤ max 0 c := Nat.floor_le hm0
  have hX : ⌊max 0 c⌋₊ ≤ 3 := by
    have : ((⌊max 0 c⌋₊ : ℕ) : ℝ) ≤ ((3 : ℕ) : ℝ) := by push_cast; linarith
    exact_mod_cast this
  refine ⟨⌊max 0 c⌋₊, max 0 c - (⌊max 0 c⌋₊ : ℕ), hX, by linarith, ?_, fun h3 => ?_, ec, ?_⟩
  · have := Nat.lt_floor_add_one (max 0 c)
    linarith
  · rw [h3] at hfl ⊢
    push_cast at hfl ⊢
    linarith
  · unfold frac
    rw [ec, e, ← EReal.coe_sub]

end Cert.Sample

end
-- ==== Proof.Bilinear.lean ====
/-
  The kernel's sum over 128 lanes is the reference's sum of eight bilinear blends. Lane `16 o + 4 y + x` holds sampling
  point `o`'s weight of the pixel at line `y` and column `x` of a four by four patch.
-/
module

public import proofs.«01_k».proof.Proof.Reals
public import proofs.«01_k».proof.Proof.Pixels
public import Idealize.ShloMosaic.Lib.Pipeline.ValueKit

@[expose] public section

noncomputable section

namespace Cert.Sample

open Idealize.ShloMosaic Cert.Reals

/-- An axis's weight at a position, when the lower pixel and the distance are known. -/
theorem tap_coe {c : EReal} {X : ℕ} {w : ℝ} (hc : cell c = ((X : ℝ) : EReal)) (hf : frac c = (w : EReal)) (i : ℕ) :
    tap c ((i : ℝ) : EReal) = (((if X = i then 1 - w else 0) + (if X + 1 = i then w else 0) : ℝ) : EReal) := by
  unfold tap
  rw [hc, hf, ← EReal.coe_one, ← EReal.coe_add, ← EReal.coe_sub]
  have e1 : (((X : ℝ) : EReal) = ((i : ℝ) : EReal)) ↔ X = i := by rw [EReal.coe_eq_coe_iff, Nat.cast_inj]
  have e2 : (((X : ℝ) + 1 : ℝ) : EReal) = ((i : ℝ) : EReal) ↔ X + 1 = i := by
    rw [EReal.coe_eq_coe_iff, ← Nat.cast_one, ← Nat.cast_add, Nat.cast_inj]
  simp only [e1, e2]
  split_ifs with h h'
  · omega
  all_goals simp

/-- An axis's weights are nonnegative. -/
theorem tap_nonneg {X : ℕ} {w : ℝ} (h0 : 0 ≤ w) (h1 : w ≤ 1) (i : ℕ) :
    (0 : ℝ) ≤ (if X = i then 1 - w else 0) + (if X + 1 = i then w else 0) := by
  split_ifs <;> linarith

/-- The four weights of an axis pick out the lower pixel and the next; at the last pixel the next has no weight. -/
theorem tap_sum {X : ℕ} {w : ℝ} (hX : X ≤ 3) (h3 : X = 3 → w = 0) (G : ℕ → EReal) :
    ∑ i : Fin 4, (((if X = i.val then 1 - w else 0) + (if X + 1 = i.val then w else 0) : ℝ) : EReal) * G i.val
      = ((1 - w : ℝ) : EReal) * G X + (w : EReal) * G (X + 1) := by
  rw [Fin.sum_univ_four]
  have hc : X = 0 ∨ X = 1 ∨ X = 2 ∨ X = 3 := by omega
  rcases hc with rfl | rfl | rfl | rfl
  · simp
  · simp
  · simp
  · simp [h3 rfl]

section
variable {cx cy : EReal} {X Y : ℕ} {u v : ℝ} (hX : X ≤ 3) (hY : Y ≤ 3) (u0 : 0 ≤ u) (u1 : u ≤ 1) (v0 : 0 ≤ v) (v1 : v ≤ 1)
  (u3 : X = 3 → u = 0) (v3 : Y = 3 → v = 0) (ex : cell cx = ((X : ℝ) : EReal)) (ey : cell cy = ((Y : ℝ) : EReal))
  (fx : frac cx = (u : EReal)) (fy : frac cy = (v : EReal))

include hX hY u0 u1 v0 v1 u3 v3 ex ey fx fy in
/-- The patch's sixteen values weighted on both axes and by a nonnegative real are that real times the bilinear blend of
    the four pixels around the coordinate. -/
theorem patch_sum {s : ℝ} (hs : 0 ≤ s) (T : ℕ → ℕ → EReal) :
    ∑ y : Fin 4, ∑ x : Fin 4, (s : EReal) * tap cx ((x.val : ℝ) : EReal) * tap cy ((y.val : ℝ) : EReal) * T y.val x.val
      = (s : EReal) * blend (frac cx) (frac cy) (T Y X) (T Y (X + 1)) (T (Y + 1) X) (T (Y + 1) (X + 1)) := by
  have inner : ∀ y : Fin 4, ∑ x : Fin 4, (s : EReal) * tap cx ((x.val : ℝ) : EReal) * tap cy ((y.val : ℝ) : EReal) * T y.val x.val
      = (s : EReal) * (tap cy ((y.val : ℝ) : EReal) * (((1 - u : ℝ) : EReal) * T y.val X + (u : EReal) * T y.val (X + 1))) := by
    intro y
    rw [← tap_sum hX u3 (T y.val), tap_coe ey fy, mul_sum_any _ (tap_nonneg v0 v1 _), mul_sum_any _ hs]
    refine Finset.sum_congr rfl fun x _ => ?_
    rw [tap_coe ex fx]
    simp only [mul_assoc, mul_left_comm, mul_comm]
  rw [Finset.sum_congr rfl fun y _ => inner y, ← mul_sum_any _ hs]
  congr 1
  simp only [tap_coe ey fy]
  rw [tap_sum hY v3 fun y => ((1 - u : ℝ) : EReal) * T y X + (u : EReal) * T y (X + 1)]
  unfold blend
  rw [fx, fy, ← EReal.coe_one, ← EReal.coe_sub, ← EReal.coe_sub]
  rw [EReal.left_distrib_of_nonneg_of_ne_top (x := ((1 - v : ℝ) : EReal)) (by exact_mod_cast (by linarith : (0 : ℝ) ≤ 1 - v)) (EReal.coe_ne_top _),
    EReal.left_distrib_of_nonneg_of_ne_top (x := (v : EReal)) (by exact_mod_cast v0) (EReal.coe_ne_top _)]
  simp only [mul_assoc, add_assoc]

end

/-- The sum over the 128 lanes, each lane's weight being the product of its point's weight and the two axes' weights. -/
theorem lane_sum (s : Fin 8 → EReal) (c : Fin 16 → EReal) (T : ℕ → ℕ → EReal) (hs : ∀ o, ∃ r : ℝ, 0 ≤ r ∧ s o = (r : EReal))
    (X Y : Fin 8 → ℕ) (u v : Fin 8 → ℝ) (hX : ∀ o, X o ≤ 3) (hY : ∀ o, Y o ≤ 3) (u0 : ∀ o, 0 ≤ u o) (u1 : ∀ o, u o ≤ 1)
    (v0 : ∀ o, 0 ≤ v o) (v1 : ∀ o, v o ≤ 1) (u3 : ∀ o, X o = 3 → u o = 0) (v3 : ∀ o, Y o = 3 → v o = 0)
    (ex : ∀ o, cell (c (column o)) = ((X o : ℝ) : EReal)) (ey : ∀ o, cell (c (line o)) = ((Y o : ℝ) : EReal))
    (fx : ∀ o, frac (c (column o)) = (u o : EReal)) (fy : ∀ o, frac (c (line o)) = (v o : EReal)) :
    laneSum s c T = ∑ o, s o * blend (frac (c (column o))) (frac (c (line o))) (T (Y o) (X o)) (T (Y o) (X o + 1))
      (T (Y o + 1) (X o)) (T (Y o + 1) (X o + 1)) := by
  unfold laneSum lanePoint
  rw [Fin.sum_univ_tiles 8 16 rfl]
  refine Finset.sum_congr rfl fun o _ => ?_
  obtain ⟨r, hr, e⟩ := hs o
  rw [e, ← patch_sum (hX o) (hY o) (u0 o) (u1 o) (v0 o) (v1 o) (u3 o) (v3 o) (ex o) (ey o) (fx o) (fy o) hr T,
    Fin.sum_univ_tiles 4 4 rfl]
  refine Finset.sum_congr rfl fun y _ => Finset.sum_congr rfl fun x _ => ?_
  have hd : (⟨(o.val * 16 + (y.val * 4 + x.val)) / 16, by omega⟩ : Fin 8) = o := Fin.ext (by show (o.val * 16 + (y.val * 4 + x.val)) / 16 = o.val; omega)
  have hx : (o.val * 16 + (y.val * 4 + x.val)) % 4 = x.val := by omega
  have hy : (o.val * 16 + (y.val * 4 + x.val)) / 4 % 4 = y.val := by omega
  simp only [hd, hx, hy, e]

end Cert.Sample

end
-- ==== Proof.Prepared.lean ====
/-
  What the precondition says of the arguments, entry by entry.
-/
module

public import proofs.«01_k».proof.Pre_prepared
public import proofs.«01_k».proof.Proof.Consts
public import Idealize.ShloMosaic.Lib.ReduceAll
public import Idealize.ShloMosaic.Lib.Pointwise

@[expose] public section

noncomputable section

namespace Cert.Prepared

open Idealize.ShloMosaic Cert.Pre_prepared

/-- Two conditions hold together where each holds. -/
theorem both {s : Shape} (x y : IVec s 1) (j : s.Idx) : andi x y j = 1#1 ↔ x j = 1#1 ∧ y j = 1#1 := IntOp.andi_eq_one

/-- A condition on numbers is one where it holds. -/
theorem of_mark {p : Prop} [Decidable p] (h : BitVec.ofBool (decide p) = 1#1) : p := by
  by_contra hp
  rw [decide_eq_false hp] at h
  exact absurd h (by decide)

instance : Subsingleton S_.Idx := ⟨fun a b => funext fun k => k.elim0⟩

section
variable {s : Shape} (a : FVec Ideal s .f32) (axes : List (Fin s.rank)) (hb : S_.BroadcastsInDim s (![] : Fin 0 → Fin s.rank))
  (h : s.ReducesTo axes S_) (hu : 0 < S_.numel) (j : S_.Idx)

/-- An array whose entries are all below infinity in absolute value is one of reals. -/
theorem finite
    (e : Host.reduce IntOp.andi (cmpf .olt (Host.absf a) (broadcastInDim s ![] hb (constant (F := Ideal) S_ .f32 0x7F800000#32)))
      (constantI S_ 1 1#1) h hu j = 1#1) (i : s.Idx) : ∃ r : ℝ, a i = (r : EReal) := by
  have e1 := Host.reduce_andi_all _ _ h hu j e i
  have e2 : max (a i) (-(a i)) < Ideal.ofBits .f32 0x7F800000#32 := of_mark e1
  rw [Consts.greatest] at e2
  have ht : a i ≠ ⊤ := fun hh => by rw [hh] at e2; exact absurd e2 (by simp)
  have hbot : a i ≠ ⊥ := fun hh => by rw [hh] at e2; exact absurd e2 (by simp)
  exact ⟨(a i).toReal, (EReal.coe_toReal ht hbot).symm⟩

/-- An array whose entries all compare equal to a constant holds it everywhere. -/
theorem constantly (b : BitVec 32)
    (e : Host.reduce IntOp.andi (cmpf .oeq a (broadcastInDim s ![] hb (constant (F := Ideal) S_ .f32 b)))
      (constantI S_ 1 1#1) h hu j = 1#1) (i : s.Idx) : a i = Ideal.ofBits .f32 b :=
  of_mark (Host.reduce_andi_all _ _ h hu j e i)

/-- An array whose entries all compare at least one constant and at most another lies between them. -/
theorem between (b b' : BitVec 32)
    (e : Host.reduce IntOp.andi (andi (cmpf .oge a (broadcastInDim s ![] hb (constant (F := Ideal) S_ .f32 b)))
      (cmpf .ole a (broadcastInDim s ![] hb (constant (F := Ideal) S_ .f32 b')))) (constantI S_ 1 1#1) h hu j = 1#1) (i : s.Idx) :
    Ideal.ofBits .f32 b ≤ a i ∧ a i ≤ Ideal.ofBits .f32 b' := by
  obtain ⟨h1, h2⟩ := (both _ _ i).1 (Host.reduce_andi_all _ _ h hu j e i)
  exact ⟨of_mark h1, of_mark h2⟩

end

/-- The precondition's facts: real queries, first matrices and weight-predictor parameters, points of the unit square,
    gains of one, shifts and first biases of nothing. -/
structure Holds (a0 : FVec Ideal S16384x256 .f32) (a1 : FVec Ideal S16384x2 .f32) (a3 a4 : FVec Ideal S258 .f32)
    (a5 : FVec Ideal S258x512 .f32) (a6 a8 : FVec Ideal S512 .f32) (a11 a12 : FVec Ideal S258 .f32) (a13 : FVec Ideal S258x512 .f32)
    (a14 : FVec Ideal S512 .f32) (a15 : FVec Ideal S512x512 .f32) (a16 : FVec Ideal S512 .f32) (a17 : FVec Ideal S512x8 .f32)
    (a18 : FVec Ideal S8 .f32) : Prop where
  query : ∀ i, ∃ r : ℝ, a0 i = (r : EReal)
  point : ∀ i, 0 ≤ a1 i ∧ a1 i ≤ 1
  first : ∀ i, ∃ r : ℝ, a5 i = (r : EReal)
  first' : ∀ i, ∃ r : ℝ, a13 i = (r : EReal)
  second' : ∀ i, ∃ r : ℝ, a15 i = (r : EReal)
  third' : ∀ i, ∃ r : ℝ, a17 i = (r : EReal)
  bias' : ∀ i, ∃ r : ℝ, a18 i = (r : EReal)
  gain : ∀ i, a3 i = 1
  gain' : ∀ i, a11 i = 1
  shift : ∀ i, a4 i = 0
  shift' : ∀ i, a12 i = 0
  bias1 : ∀ i, a6 i = 0
  bias1' : ∀ i, a14 i = 0
  bias2 : ∀ i, a8 i = 0
  bias2' : ∀ i, a16 i = 0

/-- The pattern of one. -/
theorem one : Ideal.ofBits .f32 0x3F800000#32 = (1 : EReal) := by
  simp [Ideal.ofBits, Ideal.ieee, -EReal.coe_mul]; norm_num

/-- The pattern of zero. -/
theorem zero : Ideal.ofBits .f32 0x00000000#32 = (0 : EReal) := by
  simp [Ideal.ofBits, Ideal.ieee]

/-- The precondition gives its facts. -/
theorem holds [Cert.Pre_prepared.Facts] (a0 : FVec Ideal S16384x256 .f32) (a1 : FVec Ideal S16384x2 .f32) (a2 : FVec Ideal S128x128x256 .f32)
    (a3 a4 : FVec Ideal S258 .f32) (a5 : FVec Ideal S258x512 .f32) (a6 : FVec Ideal S512 .f32) (a7 : FVec Ideal S512x512 .f32)
    (a8 : FVec Ideal S512 .f32) (a9 : FVec Ideal S512x16 .f32) (a10 : FVec Ideal S16 .f32) (a11 a12 : FVec Ideal S258 .f32)
    (a13 : FVec Ideal S258x512 .f32) (a14 : FVec Ideal S512 .f32) (a15 : FVec Ideal S512x512 .f32) (a16 : FVec Ideal S512 .f32)
    (a17 : FVec Ideal S512x8 .f32) (a18 : FVec Ideal S8 .f32)
    (h : Cert.Pre_prepared.fn (F := Ideal) a0 a1 a2 a3 a4 a5 a6 a7 a8 a9 a10 a11 a12 a13 a14 a15 a16 a17 a18 = fun _ => 1#1) :
    Holds a0 a1 a3 a4 a5 a6 a8 a11 a12 a13 a14 a15 a16 a17 a18 := by
  have e := congrFun h (fun k => k.elim0 : S_.Idx)
  unfold Cert.Pre_prepared.fn Cert.Pre_prepared.fn_part1 Cert.Pre_prepared.fn_part2 Cert.Pre_prepared.fn_part3
    Cert.Pre_prepared.fn_part4 at e
  simp only [both] at e
  obtain ⟨⟨⟨⟨⟨⟨⟨⟨⟨⟨⟨⟨⟨⟨h0, h1⟩, h5⟩, h13⟩, h15⟩, h17⟩, h18⟩, h3⟩, h11⟩, h4⟩, h12⟩, h6⟩, h14⟩, h8⟩, h16⟩ := e
  exact {
    query := finite _ _ _ _ _ _ h0
    point := fun i => by have := between _ _ _ _ _ _ _ _ h1 i; rwa [zero, one] at this
    first := finite _ _ _ _ _ _ h5
    first' := finite _ _ _ _ _ _ h13
    second' := finite _ _ _ _ _ _ h15
    third' := finite _ _ _ _ _ _ h17
    bias' := finite _ _ _ _ _ _ h18
    gain := fun i => (constantly _ _ _ _ _ _ _ h3 i).trans one
    gain' := fun i => (constantly _ _ _ _ _ _ _ h11 i).trans one
    shift := fun i => (constantly _ _ _ _ _ _ _ h4 i).trans zero
    shift' := fun i => (constantly _ _ _ _ _ _ _ h12 i).trans zero
    bias1 := fun i => (constantly _ _ _ _ _ _ _ h6 i).trans zero
    bias1' := fun i => (constantly _ _ _ _ _ _ _ h14 i).trans zero
    bias2 := fun i => (constantly _ _ _ _ _ _ _ h8 i).trans zero
    bias2' := fun i => (constantly _ _ _ _ _ _ _ h16 i).trans zero }

end Cert.Prepared

end
-- ==== Proof.RefArray.lean ====
/-
  The array the reference computes, under the precondition: every entry is the sum over the kernel's 128 lanes for its
  row and feature.
-/
module

public import proofs.«01_k».proof.Proof.RefSample
public import proofs.«01_k».proof.Proof.Normalise
public import proofs.«01_k».proof.Proof.Weights
public import proofs.«01_k».proof.Proof.Bilinear
public import proofs.«01_k».proof.Proof.Prepared

@[expose] public section

set_option maxRecDepth 16384

noncomputable section

open Idealize.ShloMosaic Idealize.ShloMosaic.TcCoe Idealize.SL.Sem

namespace Cert.ReferenceIdeal.Row

open Cert.ReferenceIdeal Cert.ReferenceIdeal.Gen Cert.ReferenceIdeal.Value Cert.Sample

variable (V0 : Valuation τ sig (Elt Ideal))

/-- The query of row `n`. -/
def queryOf (n : Fin 16384) (k : Fin 256) : EReal := V0 (Proc.devRef .tc main_arg0) (ix2 n k)

/-- The projected point of row `n`. -/
def pointOf (n : Fin 16384) (a : Fin 2) : EReal := V0 (Proc.devRef .tc main_arg1) (ix2 n a)

/-- The coordinates of row `n` as the kernel computes them. -/
def spotsOf (n : Fin 16384) : Fin 16 → EReal :=
  spot (queryOf V0 n) (pointOf V0 n) (fun k j => V0 (Proc.devRef .tc main_arg5) (ix2 k j))
    (fun y x => V0 (Proc.devRef .tc main_arg7) (ix2 y x)) (fun x p => V0 (Proc.devRef .tc main_arg9) (ix2 x p))
    (fun p => V0 (Proc.devRef .tc main_arg10) (ix1 p))

/-- The scores of row `n` as the kernel computes them. -/
def scoresOf (n : Fin 16384) : Fin 8 → EReal :=
  score (queryOf V0 n) (pointOf V0 n) (fun k j => V0 (Proc.devRef .tc main_arg13) (ix2 k j))
    (fun y x => V0 (Proc.devRef .tc main_arg15) (ix2 y x)) (fun x o => V0 (Proc.devRef .tc main_arg17) (ix2 x o))
    (fun o => V0 (Proc.devRef .tc main_arg18) (ix1 o))

/-- The precondition's facts of the reference's arguments. -/
abbrev Ready : Prop :=
  Prepared.Holds (V0 (Proc.devRef .tc main_arg0)) (V0 (Proc.devRef .tc main_arg1)) (V0 (Proc.devRef .tc main_arg3))
    (V0 (Proc.devRef .tc main_arg4)) (V0 (Proc.devRef .tc main_arg5)) (V0 (Proc.devRef .tc main_arg6)) (V0 (Proc.devRef .tc main_arg8))
    (V0 (Proc.devRef .tc main_arg11)) (V0 (Proc.devRef .tc main_arg12)) (V0 (Proc.devRef .tc main_arg13))
    (V0 (Proc.devRef .tc main_arg14)) (V0 (Proc.devRef .tc main_arg15)) (V0 (Proc.devRef .tc main_arg16))
    (V0 (Proc.devRef .tc main_arg17)) (V0 (Proc.devRef .tc main_arg18))

section
variable (H : Ready V0)

include H

/-- The projected points are real. -/
theorem point_real (n : Fin 16384) (a : Fin 2) : ∃ r : ℝ, pointOf V0 n a = (r : EReal) := by
  obtain ⟨h0, h1⟩ := H.point (ix2 n a)
  refine ⟨(pointOf V0 n a).toReal, (EReal.coe_toReal (fun h => ?_) fun h => ?_).symm⟩
  · exact absurd (h ▸ h1 : (⊤ : EReal) ≤ 1) (by decide)
  · exact absurd (h ▸ h0 : (0 : EReal) ≤ ⊥) (by decide)

/-- The reference's scores are the kernel's. -/
theorem score_eq (n : Fin 16384) (o : Fin 8) : res_main_v72 (F := Ideal) V0 (ix2 n o) = scoresOf V0 n o := by
  rw [score_at V0 n o (fun k => H.gain' _) (fun k => H.shift' _) (fun k => H.bias1' _) (fun k => H.bias2' _), input_eq]
  exact (raw_eq _ _ _ _ _ _ (fun x => H.query _) (point_real V0 H n) fun k j => H.first' _).symm

/-- The reference's coordinates are the kernel's. -/
theorem place_eq (n : Fin 16384) (o : Fin 8) (a : Fin 2) :
    res_main_v86 (F := Ideal) V0 (ix3 n o a) = spotsOf V0 n ⟨o.val * 2 + a.val, by omega⟩ := by
  rw [place_at V0 n o a (fun k => H.gain _) (fun k => H.shift _) (fun k => H.bias1 _) (fun k => H.bias2 _), input_eq]
  have ha : (⟨(o.val * 2 + a.val) % 2, Nat.mod_lt _ (by norm_num)⟩ : Fin 2) = a := Fin.ext (by show (o.val * 2 + a.val) % 2 = a.val; omega)
  unfold spotsOf spot
  rw [ha]
  exact congrArg (place (pointOf V0 n a))
    (raw_eq _ _ _ _ _ _ (fun x => H.query _) (point_real V0 H n) fun k j => H.first _).symm

/-- The kernel's scores are real. -/
theorem score_real (n : Fin 16384) (o : Fin 8) : ∃ r : ℝ, scoresOf V0 n o = (r : EReal) :=
  raw_real _ _ _ _ _ _ (fun x => H.query _) (point_real V0 H n) (fun k j => H.first' _) (fun k j => H.second' _)
    (fun j => H.third' _) (H.bias' _)

/-- A coordinate's pixel and the distance beyond it. -/
theorem spot_facts (n : Fin 16384) (k : Fin 16) : ∃ (X : ℕ) (w : ℝ), X ≤ 3 ∧ 0 ≤ w ∧ w ≤ 1 ∧ (X = 3 → w = 0)
    ∧ cell (spotsOf V0 n k) = ((X : ℝ) : EReal) ∧ frac (spotsOf V0 n k) = (w : EReal) := by
  unfold spotsOf spot
  obtain ⟨h0, h1⟩ := H.point (ix2 n ⟨k.val % 2, Nat.mod_lt _ (by norm_num)⟩)
  obtain ⟨c, c0, c1, e⟩ := place_coe h0 h1 (rawKernel (queryOf V0 n) (pointOf V0 n) (fun k j => V0 (Proc.devRef .tc main_arg5) (ix2 k j))
    (fun y x => V0 (Proc.devRef .tc main_arg7) (ix2 y x)) (fun x => V0 (Proc.devRef .tc main_arg9) (ix2 x k))
    (V0 (Proc.devRef .tc main_arg10) (ix1 k)))
  have := pixel_facts c0 c1
  rw [← e] at this
  exact this

/-- One entry of the reference's array. -/
theorem entry_eq (n : Fin 16384) (ch : Fin 256) :
    (show FVec Ideal S16384x256 .f32 from Host.reduceAdd (res_main_v185 (F := Ideal) V0) (constant S_ .f32 0x00000000#32)
        reducesTo_S16384x8x256_S16384x256_d1 h_S_) (ix2 n ch)
      = laneSum (share (scoresOf V0 n)) (spotsOf V0 n) fun y x => texel (V0 (Proc.devRef .tc main_arg2)) y x ch := by
  choose C w hC w0 w1 w3 ec ef using spot_facts V0 H
  have e0 : ∀ n o, res_main_v86 (F := Ideal) V0 (ix3 n o 0) = spotsOf V0 n (column o) := fun n o => place_eq V0 H n o 0
  have e1 : ∀ n o, res_main_v86 (F := Ideal) V0 (ix3 n o 1) = spotsOf V0 n (line o) := fun n o => place_eq V0 H n o 1
  rw [result_at V0 (fun n o => C n (line o)) (fun n o => C n (column o)) (fun n o => hC _ _) (fun n o => hC _ _)
    (fun n o => by rw [e1]; exact ec _ _) (fun n o => by rw [e0]; exact ec _ _) n ch]
  have es : (fun x => res_main_v72 (F := Ideal) V0 (ix2 n x)) = scoresOf V0 n := funext fun o => score_eq V0 H n o
  simp only [es, e0, e1]
  exact (lane_sum (share (scoresOf V0 n)) (spotsOf V0 n) (fun y x => texel (V0 (Proc.devRef .tc main_arg2)) y x ch)
    (share_coe _ (score_real V0 H n)) (fun o => C n (column o)) (fun o => C n (line o)) (fun o => w n (column o)) (fun o => w n (line o))
    (fun o => hC _ _) (fun o => hC _ _) (fun o => w0 _ _) (fun o => w1 _ _) (fun o => w0 _ _) (fun o => w1 _ _)
    (fun o => w3 _ _) (fun o => w3 _ _) (fun o => ec _ _) (fun o => ec _ _) (fun o => ef _ _) (fun o => ef _ _)).symm

end

end Cert.ReferenceIdeal.Row

end
-- ==== Proof.Equation.lean ====
/-
  The equation of the two programs: from the same arguments, under the precondition, the kernel's array is the
  reference's.
-/
module

public import proofs.«01_k».proof.Proof.KernelArray
public import proofs.«01_k».proof.Proof.RefArray
public import proofs.«01_k».proof.Defs

@[expose] public section

set_option maxRecDepth 16384

noncomputable section

namespace Cert.Equation

open Idealize.ShloMosaic Idealize.SL.Sem

variable (m : (ℓ : Loc Cert.KernelIdeal.nD Cert.KernelIdeal.τ Cert.KernelIdeal.sig) → Buf (Elt Ideal) ℓ)
  (c : Dev Cert.KernelIdeal.nD)
  (V0 : Valuation Cert.ReferenceIdeal.τ Cert.ReferenceIdeal.sig (Elt Ideal))
  (H : Cert.ReferenceIdeal.Row.Ready V0)
  (h0 : V0 (Proc.devRef .tc Cert.ReferenceIdeal.main_arg0) = m ((c.tc : Thread Cert.KernelIdeal.nD Cert.KernelIdeal.τ).loc Cert.KernelIdeal.main_arg0))
  (h1 : V0 (Proc.devRef .tc Cert.ReferenceIdeal.main_arg1) = m ((c.tc : Thread Cert.KernelIdeal.nD Cert.KernelIdeal.τ).loc Cert.KernelIdeal.main_arg1))
  (h2 : V0 (Proc.devRef .tc Cert.ReferenceIdeal.main_arg2) = m ((c.tc : Thread Cert.KernelIdeal.nD Cert.KernelIdeal.τ).loc Cert.KernelIdeal.main_arg2))
  (h5 : V0 (Proc.devRef .tc Cert.ReferenceIdeal.main_arg5) = m ((c.tc : Thread Cert.KernelIdeal.nD Cert.KernelIdeal.τ).loc Cert.KernelIdeal.main_arg5))
  (h7 : V0 (Proc.devRef .tc Cert.ReferenceIdeal.main_arg7) = m ((c.tc : Thread Cert.KernelIdeal.nD Cert.KernelIdeal.τ).loc Cert.KernelIdeal.main_arg7))
  (h9 : V0 (Proc.devRef .tc Cert.ReferenceIdeal.main_arg9) = m ((c.tc : Thread Cert.KernelIdeal.nD Cert.KernelIdeal.τ).loc Cert.KernelIdeal.main_arg9))
  (h10 : V0 (Proc.devRef .tc Cert.ReferenceIdeal.main_arg10) = m ((c.tc : Thread Cert.KernelIdeal.nD Cert.KernelIdeal.τ).loc Cert.KernelIdeal.main_arg10))
  (h13 : V0 (Proc.devRef .tc Cert.ReferenceIdeal.main_arg13) = m ((c.tc : Thread Cert.KernelIdeal.nD Cert.KernelIdeal.τ).loc Cert.KernelIdeal.main_arg13))
  (h15 : V0 (Proc.devRef .tc Cert.ReferenceIdeal.main_arg15) = m ((c.tc : Thread Cert.KernelIdeal.nD Cert.KernelIdeal.τ).loc Cert.KernelIdeal.main_arg15))
  (h17 : V0 (Proc.devRef .tc Cert.ReferenceIdeal.main_arg17) = m ((c.tc : Thread Cert.KernelIdeal.nD Cert.KernelIdeal.τ).loc Cert.KernelIdeal.main_arg17))
  (h18 : V0 (Proc.devRef .tc Cert.ReferenceIdeal.main_arg18) = m ((c.tc : Thread Cert.KernelIdeal.nD Cert.KernelIdeal.τ).loc Cert.KernelIdeal.main_arg18))

include H h0 h1 h2 h5 h7 h9 h10 h13 h15 h17 h18 in
/-- The reference's array is the kernel's, when the arguments they read are the same and prepared. -/
theorem arrays_eq :
    (show FVec Ideal Cert.ReferenceIdeal.S16384x256 .f32 from
      Host.reduceAdd (Cert.ReferenceIdeal.Value.res_main_v185 (F := Ideal) V0) (constant Cert.ReferenceIdeal.S_ .f32 0x00000000#32)
        Cert.ReferenceIdeal.Gen.reducesTo_S16384x8x256_S16384x256_d1 Cert.ReferenceIdeal.Gen.h_S_)
      = Cert.KernelIdeal.Row.table m c := by
  funext i
  obtain ⟨n, ch, rfl⟩ : ∃ (n : Fin 16384) (ch : Fin 256), i = ix2 n ch := ⟨i 0, i 1, (ix2_eta i).symm⟩
  refine (Cert.ReferenceIdeal.Row.entry_eq V0 H n ch).trans ?_
  show _ = Cert.KernelIdeal.Row.entry m c n ch
  unfold Cert.KernelIdeal.Row.entry Cert.KernelIdeal.Row.scoresOf Cert.KernelIdeal.Row.spotsOf
    Cert.KernelIdeal.Row.queryOf Cert.KernelIdeal.Row.pointOf Cert.ReferenceIdeal.Row.scoresOf Cert.ReferenceIdeal.Row.spotsOf
    Cert.ReferenceIdeal.Row.queryOf Cert.ReferenceIdeal.Row.pointOf
  rw [h0, h1, h2, h5, h7, h9, h10, h13, h15, h17, h18]

end Cert.Equation

end
-- ==== Proof.lean ====
/-
  The proof of the certificate's claims: the three programs run and leave their arguments alone, the kernel's named
  constant is the only difference between the two kernels, and the idealized kernel computes what the reference computes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_prepared
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The reference runs, ends with no pending wait and leaves its arguments as they were. -/
theorem reference_frame : quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's constant is the pattern nearest 1/258, which the idealized kernel names. -/
theorem named : preserves_Kernel_KernelIdeal :=
  IdealRules.named_const.statement Cert.KernelIdeal.κ "inv_din" .f32 0x3B7E03F8#32 ((1 / 258 : ℝ) : EReal) rfl

/-- From the same prepared arguments the idealized kernel and the reference end with the same array. -/
theorem values : algebraic_KernelIdeal_ReferenceIdeal_pre_prepared := fun m g m' g' hp ha => by
  refine ⟨fun c => Cert.KernelIdeal.Row.table m c, ?_, ?_⟩
  · exact (θ_run Cert.KernelIdeal.defs _ _).mono (fun r h c => ⟨(h c).1.trans (Cert.KernelIdeal.Row.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9, h10, h11, h12, h13, h14, h15, h16, h17, h18⟩ := ha c
    have H := Cert.Prepared.holds _ _ _ _ _ _ _ _ _ _ _ _ _ _ _ _ _ _ _ (hp c)
    rw [← h0, ← h1, ← h3, ← h4, ← h5, ← h6, ← h8, ← h11, ← h12, ← h13, ← h14, ← h15, ← h16, ← h17, ← h18] at H
    exact Cert.Equation.arrays_eq m c (StableHlo.launchContents m' c) H h0 h1 h2 h5 h7 h9 h10 h13 h15 h17 h18

/-- Every claim of the certificate. -/
theorem claim : Cert.Claim :=
  ⟨Cert.Kernel.Gen.facts, Cert.KernelIdeal.Gen.facts, Cert.ReferenceIdeal.Gen.facts, Cert.Pre_prepared.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, named, values⟩

end Cert.Proof

end
